-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S262144x2 : Shape := ⟨2, ![262144, 2]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel

variable [Facts]

def fn {F : FTy → Type} [FloatOps F] (main_arg0 : FVec F S262144x2 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  main_v3
-- ==== Kernel.lean ====
abbrev S262144x2 : Shape := ⟨2, ![262144, 2]⟩
abbrev S32x256 : Shape := ⟨2, ![32, 256]⟩
abbrev S256 : Shape := ⟨1, ![256]⟩
abbrev S2x262144 : Shape := ⟨2, ![2, 262144]⟩
abbrev S1x256 : Shape := ⟨2, ![1, 256]⟩
abbrev S96x256 : Shape := ⟨2, ![96, 256]⟩
abbrev S262144x128 : Shape := ⟨2, ![262144, 128]⟩
abbrev S2x16384 : Shape := ⟨2, ![2, 16384]⟩
abbrev S16384x128 : Shape := ⟨2, ![16384, 128]⟩
abbrev S1x16384 : Shape := ⟨2, ![1, 16384]⟩
abbrev S32x16384 : Shape := ⟨2, ![32, 16384]⟩
abbrev S96x16384 : Shape := ⟨2, ![96, 16384]⟩
abbrev S16384x256 : Shape := ⟨2, ![16384, 256]⟩
abbrev S262144x100 : Shape := ⟨2, ![262144, 100]⟩

abbrev nBuf : Space → Nat
  | .hbm => 19
  | .vmem => 5
  | .smem => 0
  | _ => 0

abbrev bufTy : (tb : Table) → Fin (tcTables nBuf tb) → BufTy
  | .hbm, ⟨0, _⟩ => ⟨S262144x2, .f32⟩
  | .hbm, ⟨1, _⟩ => ⟨S32x256, .i32⟩
  | .hbm, ⟨2, _⟩ => ⟨S256, .f32⟩
  | .hbm, ⟨3, _⟩ => ⟨S256, .f32⟩
  | .hbm, ⟨4, _⟩ => ⟨S2x262144, .f32⟩
  | .hbm, ⟨5, _⟩ => ⟨S32x256, .f32⟩
  | .hbm, ⟨6, _⟩ => ⟨S1x256, .f32⟩
  | .hbm, ⟨7, _⟩ => ⟨S32x256, .f32⟩
  | .hbm, ⟨8, _⟩ => ⟨S32x256, .f32⟩
  | .hbm, ⟨9, _⟩ => ⟨S1x256, .f32⟩
  | .hbm, ⟨10, _⟩ => ⟨S32x256, .f32⟩
  | .hbm, ⟨11, _⟩ => ⟨S32x256, .f32⟩
  | .hbm, ⟨12, _⟩ => ⟨S32x256, .bf16⟩
  | .hbm, ⟨13, _⟩ => ⟨S32x256, .f32⟩
  | .hbm, ⟨14, _⟩ => ⟨S32x256, .f32⟩
  | .hbm, ⟨15, _⟩ => ⟨S32x256, .bf16⟩
  | .hbm, ⟨16, _⟩ => ⟨S96x256, .bf16⟩
  | .hbm, ⟨17, _⟩ => ⟨S262144x128, .f32⟩
  | .hbm, ⟨18, _⟩ => ⟨S262144x100, .f32⟩
  | .local _ .vmem, ⟨0, _⟩ => ⟨S2x16384, .f32⟩
  | .local _ .vmem, ⟨1, _⟩ => ⟨S2x16384, .f32⟩
  | .local _ .vmem, ⟨2, _⟩ => ⟨S96x256, .bf16⟩
  | .local _ .vmem, ⟨3, _⟩ => ⟨S16384x128, .f32⟩
  | .local _ .vmem, ⟨4, _⟩ => ⟨S16384x128, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S262144x2 : Shape := ⟨2, ![262144, 2]⟩
abbrev S100 : Shape := ⟨1, ![100]⟩
abbrev S262144x1 : Shape := ⟨2, ![262144, 1]⟩
abbrev S_ : Shape := ⟨0, ![]⟩
abbrev S19 : Shape := ⟨1, ![19]⟩
abbrev S1x19 : Shape := ⟨2, ![1, 19]⟩
abbrev S262144x19 : Shape := ⟨2, ![262144, 19]⟩
abbrev S262144x3 : Shape := ⟨2, ![262144, 3]⟩
abbrev S262144x5 : Shape := ⟨2, ![262144, 5]⟩
abbrev S262144x7 : Shape := ⟨2, ![262144, 7]⟩
abbrev S262144x9 : Shape := ⟨2, ![262144, 9]⟩
abbrev S262144x11 : Shape := ⟨2, ![262144, 11]⟩
abbrev S262144x13 : Shape := ⟨2, ![262144, 13]⟩
abbrev S262144x15 : Shape := ⟨2, ![262144, 15]⟩
abbrev S262144x17 : Shape := ⟨2, ![262144, 17]⟩
abbrev S262144x100 : Shape := ⟨2, ![262144, 100]⟩
abbrev S1x100 : Shape := ⟨2, ![1, 100]⟩

abbrev nBuf : Space → Nat
  | .hbm => 386
  | .vmem => 0
  | .smem => 0
  | _ => 0

abbrev hbmTy0_0 (i : Nat) : BufTy := match i % 128 with
  | 0 => ⟨S262144x2, .f32⟩
  | 1 => ⟨S100, .f32⟩
  | 2 => ⟨S262144x1, .f32⟩
  | 3 => ⟨S262144x1, .f32⟩
  | 4 => ⟨S_, .f32⟩
  | 5 => ⟨S262144x1, .f32⟩
  | 6 => ⟨S262144x1, .f32⟩
  | 7 => ⟨S_, .f32⟩
  | 8 => ⟨S262144x1, .f32⟩
  | 9 => ⟨S262144x1, .f32⟩
  | 10 => ⟨S_, .f32⟩
  | 11 => ⟨S262144x1, .f32⟩
  | 12 => ⟨S262144x1, .f32⟩
  | 13 => ⟨S_, .f32⟩
  | 14 => ⟨S262144x1, .f32⟩
  | 15 => ⟨S262144x1, .f32⟩
  | 16 => ⟨S262144x1, .f32⟩
  | 17 => ⟨S262144x1, .f32⟩
  | 18 => ⟨S19, .i32⟩
  | 19 => ⟨S1x19, .i32⟩
  | 20 => ⟨S_, .i32⟩
  | 21 => ⟨S1x19, .i32⟩
  | 22 => ⟨S1x19, .i32⟩
  | 23 => ⟨S1x19, .i32⟩
  | 24 => ⟨S1x19, .f32⟩
  | 25 => ⟨S_, .f32⟩
  | 26 => ⟨S262144x1, .f32⟩
  | 27 => ⟨S_, .f32⟩
  | 28 => ⟨S262144x19, .f32⟩
  | 29 => ⟨S_, .i32⟩
  | 30 => ⟨S1x19, .i32⟩
  | 31 => ⟨S1x19, .i1⟩
  | 32 => ⟨S262144x19, .i1⟩
  | 33 => ⟨S262144x19, .f32⟩
  | 34 => ⟨S262144x19, .f32⟩
  | 35 => ⟨S_, .f32⟩
  | 36 => ⟨S262144x1, .f32⟩
  | 37 => ⟨S262144x1, .f32⟩
  | 38 => ⟨S262144x1, .f32⟩
  | 39 => ⟨S_, .f32⟩
  | 40 => ⟨S262144x1, .f32⟩
  | 41 => ⟨S262144x1, .f32⟩
  | 42 => ⟨S262144x19, .f32⟩
  | 43 => ⟨S262144x19, .f32⟩
  | 44 => ⟨S_, .f32⟩
  | 45 => ⟨S1x19, .f32⟩
  | 46 => ⟨S1x19, .f32⟩
  | 47 => ⟨S_, .f32⟩
  | 48 => ⟨S1x19, .f32⟩
  | 49 => ⟨S1x19, .f32⟩
  | 50 => ⟨S262144x19, .f32⟩
  | 51 => ⟨S262144x19, .f32⟩
  | 52 => ⟨S262144x19, .f32⟩
  | 53 => ⟨S_, .f32⟩
  | 54 => ⟨S1x19, .f32⟩
  | 55 => ⟨S1x19, .f32⟩
  | 56 => ⟨S262144x19, .f32⟩
  | 57 => ⟨S262144x19, .f32⟩
  | 58 => ⟨S_, .i32⟩
  | 59 => ⟨S1x19, .i32⟩
  | 60 => ⟨S1x19, .i1⟩
  | 61 => ⟨S_, .i32⟩
  | 62 => ⟨S1x19, .i32⟩
  | 63 => ⟨S1x19, .i1⟩
  | 64 => ⟨S262144x19, .i1⟩
  | 65 => ⟨S262144x19, .f32⟩
  | 66 => ⟨S262144x19, .f32⟩
  | 67 => ⟨S262144x19, .i1⟩
  | 68 => ⟨S262144x19, .f32⟩
  | 69 => ⟨S_, .f32⟩
  | 70 => ⟨S262144x1, .f32⟩
  | 71 => ⟨S262144x1, .f32⟩
  | 72 => ⟨S262144x1, .f32⟩
  | 73 => ⟨S_, .f32⟩
  | 74 => ⟨S262144x1, .f32⟩
  | 75 => ⟨S262144x1, .f32⟩
  | 76 => ⟨S262144x19, .f32⟩
  | 77 => ⟨S262144x19, .f32⟩
  | 78 => ⟨S_, .f32⟩
  | 79 => ⟨S1x19, .f32⟩
  | 80 => ⟨S1x19, .f32⟩
  | 81 => ⟨S_, .f32⟩
  | 82 => ⟨S1x19, .f32⟩
  | 83 => ⟨S1x19, .f32⟩
  | 84 => ⟨S262144x19, .f32⟩
  | 85 => ⟨S262144x19, .f32⟩
  | 86 => ⟨S262144x19, .f32⟩
  | 87 => ⟨S_, .f32⟩
  | 88 => ⟨S1x19, .f32⟩
  | 89 => ⟨S1x19, .f32⟩
  | 90 => ⟨S262144x19, .f32⟩
  | 91 => ⟨S262144x19, .f32⟩
  | 92 => ⟨S_, .i32⟩
  | 93 => ⟨S1x19, .i32⟩
  | 94 => ⟨S1x19, .i1⟩
  | 95 => ⟨S_, .i32⟩
  | 96 => ⟨S1x19, .i32⟩
  | 97 => ⟨S1x19, .i1⟩
  | 98 => ⟨S262144x19, .i1⟩
  | 99 => ⟨S262144x19, .f32⟩
  | 100 => ⟨S262144x19, .f32⟩
  | 101 => ⟨S262144x19, .i1⟩
  | 102 => ⟨S262144x19, .f32⟩
  | 103 => ⟨S_, .f32⟩
  | 104 => ⟨S262144x1, .f32⟩
  | 105 => ⟨S262144x1, .f32⟩
  | 106 => ⟨S262144x1, .f32⟩
  | 107 => ⟨S_, .f32⟩
  | 108 => ⟨S262144x1, .f32⟩
  | 109 => ⟨S262144x1, .f32⟩
  | 110 => ⟨S262144x19, .f32⟩
  | 111 => ⟨S262144x19, .f32⟩
  | 112 => ⟨S_, .f32⟩
  | 113 => ⟨S1x19, .f32⟩
  | 114 => ⟨S1x19, .f32⟩
  | 115 => ⟨S_, .f32⟩
  | 116 => ⟨S1x19, .f32⟩
  | 117 => ⟨S1x19, .f32⟩
  | 118 => ⟨S262144x19, .f32⟩
  | 119 => ⟨S262144x19, .f32⟩
  | 120 => ⟨S262144x19, .f32⟩
  | 121 => ⟨S_, .f32⟩
  | 122 => ⟨S1x19, .f32⟩
  | 123 => ⟨S1x19, .f32⟩
  | 124 => ⟨S262144x19, .f32⟩
  | 125 => ⟨S262144x19, .f32⟩
  | 126 => ⟨S_, .i32⟩
  | 127 => ⟨S1x19, .i32⟩
  | _ => ⟨S262144x2, .f32⟩

abbrev hbmTy0_1 (i : Nat) : BufTy := match i % 128 with
  | 0 => ⟨S1x19, .i1⟩
  | 1 => ⟨S_, .i32⟩
  | 2 => ⟨S1x19, .i32⟩
  | 3 => ⟨S1x19, .i1⟩
  | 4 => ⟨S262144x19, .i1⟩
  | 5 => ⟨S262144x19, .f32⟩
  | 6 => ⟨S262144x19, .f32⟩
  | 7 => ⟨S262144x19, .i1⟩
  | 8 => ⟨S262144x19, .f32⟩
  | 9 => ⟨S_, .f32⟩
  | 10 => ⟨S262144x1, .f32⟩
  | 11 => ⟨S262144x1, .f32⟩
  | 12 => ⟨S262144x1, .f32⟩
  | 13 => ⟨S_, .f32⟩
  | 14 => ⟨S262144x1, .f32⟩
  | 15 => ⟨S262144x1, .f32⟩
  | 16 => ⟨S262144x19, .f32⟩
  | 17 => ⟨S262144x19, .f32⟩
  | 18 => ⟨S_, .f32⟩
  | 19 => ⟨S1x19, .f32⟩
  | 20 => ⟨S1x19, .f32⟩
  | 21 => ⟨S_, .f32⟩
  | 22 => ⟨S1x19, .f32⟩
  | 23 => ⟨S1x19, .f32⟩
  | 24 => ⟨S262144x19, .f32⟩
  | 25 => ⟨S262144x19, .f32⟩
  | 26 => ⟨S262144x19, .f32⟩
  | 27 => ⟨S_, .f32⟩
  | 28 => ⟨S1x19, .f32⟩
  | 29 => ⟨S1x19, .f32⟩
  | 30 => ⟨S262144x19, .f32⟩
  | 31 => ⟨S262144x19, .f32⟩
  | 32 => ⟨S_, .i32⟩
  | 33 => ⟨S1x19, .i32⟩
  | 34 => ⟨S1x19, .i1⟩
  | 35 => ⟨S_, .i32⟩
  | 36 => ⟨S1x19, .i32⟩
  | 37 => ⟨S1x19, .i1⟩
  | 38 => ⟨S262144x19, .i1⟩
  | 39 => ⟨S262144x19, .f32⟩
  | 40 => ⟨S262144x19, .f32⟩
  | 41 => ⟨S262144x19, .i1⟩
  | 42 => ⟨S262144x19, .f32⟩
  | 43 => ⟨S_, .f32⟩
  | 44 => ⟨S262144x1, .f32⟩
  | 45 => ⟨S262144x1, .f32⟩
  | 46 => ⟨S262144x1, .f32⟩
  | 47 => ⟨S_, .f32⟩
  | 48 => ⟨S262144x1, .f32⟩
  | 49 => ⟨S262144x1, .f32⟩
  | 50 => ⟨S262144x19, .f32⟩
  | 51 => ⟨S262144x19, .f32⟩
  | 52 => ⟨S_, .f32⟩
  | 53 => ⟨S1x19, .f32⟩
  | 54 => ⟨S1x19, .f32⟩
  | 55 => ⟨S_, .f32⟩
  | 56 => ⟨S1x19, .f32⟩
  | 57 => ⟨S1x19, .f32⟩
  | 58 => ⟨S262144x19, .f32⟩
  | 59 => ⟨S262144x19, .f32⟩
  | 60 => ⟨S262144x19, .f32⟩
  | 61 => ⟨S_, .f32⟩
  | 62 => ⟨S1x19, .f32⟩
  | 63 => ⟨S1x19, .f32⟩
  | 64 => ⟨S262144x19, .f32⟩
  | 65 => ⟨S262144x19, .f32⟩
  | 66 => ⟨S_, .i32⟩
  | 67 => ⟨S1x19, .i32⟩
  | 68 => ⟨S1x19, .i1⟩
  | 69 => ⟨S_, .i32⟩
  | 70 => ⟨S1x19, .i32⟩
  | 71 => ⟨S1x19, .i1⟩
  | 72 => ⟨S262144x19, .i1⟩
  | 73 => ⟨S262144x19, .f32⟩
  | 74 => ⟨S262144x19, .f32⟩
  | 75 => ⟨S262144x19, .i1⟩
  | 76 => ⟨S262144x19, .f32⟩
  | 77 => ⟨S_, .f32⟩
  | 78 => ⟨S262144x1, .f32⟩
  | 79 => ⟨S262144x1, .f32⟩
  | 80 => ⟨S262144x1, .f32⟩
  | 81 => ⟨S_, .f32⟩
  | 82 => ⟨S262144x1, .f32⟩
  | 83 => ⟨S262144x1, .f32⟩
  | 84 => ⟨S262144x19, .f32⟩
  | 85 => ⟨S262144x19, .f32⟩
  | 86 => ⟨S_, .f32⟩
  | 87 => ⟨S1x19, .f32⟩
  | 88 => ⟨S1x19, .f32⟩
  | 89 => ⟨S_, .f32⟩
  | 90 => ⟨S1x19, .f32⟩
  | 91 => ⟨S1x19, .f32⟩
  | 92 => ⟨S262144x19, .f32⟩
  | 93 => ⟨S262144x19, .f32⟩
  | 94 => ⟨S262144x19, .f32⟩
  | 95 => ⟨S_, .f32⟩
  | 96 => ⟨S1x19, .f32⟩
  | 97 => ⟨S1x19, .f32⟩
  | 98 => ⟨S262144x19, .f32⟩
  | 99 => ⟨S262144x19, .f32⟩
  | 100 => ⟨S_, .i32⟩
  | 101 => ⟨S1x19, .i32⟩
  | 102 => ⟨S1x19, .i1⟩
  | 103 => ⟨S_, .i32⟩
  | 104 => ⟨S1x19, .i32⟩
  | 105 => ⟨S1x19, .i1⟩
  | 106 => ⟨S262144x19, .i1⟩
  | 107 => ⟨S262144x19, .f32⟩
  | 108 => ⟨S262144x19, .f32⟩
  | 109 => ⟨S262144x19, .i1⟩
  | 110 => ⟨S262144x19, .f32⟩
  | 111 => ⟨S_, .f32⟩
  | 112 => ⟨S262144x1, .f32⟩
  | 113 => ⟨S262144x1, .f32⟩
  | 114 => ⟨S262144x1, .f32⟩
  | 115 => ⟨S_, .f32⟩
  | 116 => ⟨S262144x1, .f32⟩
  | 117 => ⟨S262144x1, .f32⟩
  | 118 => ⟨S262144x19, .f32⟩
  | 119 => ⟨S262144x19, .f32⟩
  | 120 => ⟨S_, .f32⟩
  | 121 => ⟨S1x19, .f32⟩
  | 122 => ⟨S1x19, .f32⟩
  | 123 => ⟨S_, .f32⟩
  | 124 => ⟨S1x19, .f32⟩
  | 125 => ⟨S1x19, .f32⟩
  | 126 => ⟨S262144x19, .f32⟩
  | 127 => ⟨S262144x19, .f32⟩
  | _ => ⟨S262144x2, .f32⟩

abbrev hbmTy0_2 (i : Nat) : BufTy := match i % 128 with
  | 0 => ⟨S262144x19, .f32⟩
  | 1 => ⟨S_, .f32⟩
  | 2 => ⟨S1x19, .f32⟩
  | 3 => ⟨S1x19, .f32⟩
  | 4 => ⟨S262144x19, .f32⟩
  | 5 => ⟨S262144x19, .f32⟩
  | 6 => ⟨S_, .i32⟩
  | 7 => ⟨S1x19, .i32⟩
  | 8 => ⟨S1x19, .i1⟩
  | 9 => ⟨S_, .i32⟩
  | 10 => ⟨S1x19, .i32⟩
  | 11 => ⟨S1x19, .i1⟩
  | 12 => ⟨S262144x19, .i1⟩
  | 13 => ⟨S262144x19, .f32⟩
  | 14 => ⟨S262144x19, .f32⟩
  | 15 => ⟨S262144x19, .i1⟩
  | 16 => ⟨S262144x19, .f32⟩
  | 17 => ⟨S_, .f32⟩
  | 18 => ⟨S262144x1, .f32⟩
  | 19 => ⟨S262144x1, .f32⟩
  | 20 => ⟨S262144x1, .f32⟩
  | 21 => ⟨S_, .f32⟩
  | 22 => ⟨S262144x1, .f32⟩
  | 23 => ⟨S262144x1, .f32⟩
  | 24 => ⟨S262144x19, .f32⟩
  | 25 => ⟨S262144x19, .f32⟩
  | 26 => ⟨S_, .f32⟩
  | 27 => ⟨S1x19, .f32⟩
  | 28 => ⟨S1x19, .f32⟩
  | 29 => ⟨S_, .f32⟩
  | 30 => ⟨S1x19, .f32⟩
  | 31 => ⟨S1x19, .f32⟩
  | 32 => ⟨S262144x19, .f32⟩
  | 33 => ⟨S262144x19, .f32⟩
  | 34 => ⟨S262144x19, .f32⟩
  | 35 => ⟨S_, .f32⟩
  | 36 => ⟨S1x19, .f32⟩
  | 37 => ⟨S1x19, .f32⟩
  | 38 => ⟨S262144x19, .f32⟩
  | 39 => ⟨S262144x19, .f32⟩
  | 40 => ⟨S_, .i32⟩
  | 41 => ⟨S1x19, .i32⟩
  | 42 => ⟨S1x19, .i1⟩
  | 43 => ⟨S_, .i32⟩
  | 44 => ⟨S1x19, .i32⟩
  | 45 => ⟨S1x19, .i1⟩
  | 46 => ⟨S262144x19, .i1⟩
  | 47 => ⟨S262144x19, .f32⟩
  | 48 => ⟨S262144x19, .f32⟩
  | 49 => ⟨S262144x19, .i1⟩
  | 50 => ⟨S262144x19, .f32⟩
  | 51 => ⟨S_, .f32⟩
  | 52 => ⟨S262144x1, .f32⟩
  | 53 => ⟨S262144x1, .f32⟩
  | 54 => ⟨S262144x1, .f32⟩
  | 55 => ⟨S_, .f32⟩
  | 56 => ⟨S262144x1, .f32⟩
  | 57 => ⟨S262144x1, .f32⟩
  | 58 => ⟨S262144x19, .f32⟩
  | 59 => ⟨S262144x19, .f32⟩
  | 60 => ⟨S_, .f32⟩
  | 61 => ⟨S1x19, .f32⟩
  | 62 => ⟨S1x19, .f32⟩
  | 63 => ⟨S_, .f32⟩
  | 64 => ⟨S1x19, .f32⟩
  | 65 => ⟨S1x19, .f32⟩
  | 66 => ⟨S262144x19, .f32⟩
  | 67 => ⟨S262144x19, .f32⟩
  | 68 => ⟨S262144x19, .f32⟩
  | 69 => ⟨S_, .f32⟩
  | 70 => ⟨S1x19, .f32⟩
  | 71 => ⟨S1x19, .f32⟩
  | 72 => ⟨S262144x19, .f32⟩
  | 73 => ⟨S262144x19, .f32⟩
  | 74 => ⟨S_, .i32⟩
  | 75 => ⟨S1x19, .i32⟩
  | 76 => ⟨S1x19, .i1⟩
  | 77 => ⟨S_, .i32⟩
  | 78 => ⟨S1x19, .i32⟩
  | 79 => ⟨S1x19, .i1⟩
  | 80 => ⟨S262144x19, .i1⟩
  | 81 => ⟨S262144x19, .f32⟩
  | 82 => ⟨S262144x19, .f32⟩
  | 83 => ⟨S262144x19, .i1⟩
  | 84 => ⟨S262144x19, .f32⟩
  | 85 => ⟨S_, .i32⟩
  | 86 => ⟨S1x19, .i32⟩
  | 87 => ⟨S1x19, .i1⟩
  | 88 => ⟨S262144x19, .f32⟩
  | 89 => ⟨S262144x19, .f32⟩
  | 90 => ⟨S262144x19, .f32⟩
  | 91 => ⟨S262144x19, .f32⟩
  | 92 => ⟨S262144x19, .f32⟩
  | 93 => ⟨S262144x19, .f32⟩
  | 94 => ⟨S262144x19, .f32⟩
  | 95 => ⟨S262144x19, .f32⟩
  | 96 => ⟨S262144x19, .i1⟩
  | 97 => ⟨S262144x19, .f32⟩
  | 98 => ⟨S262144x1, .f32⟩
  | 99 => ⟨S262144x1, .f32⟩
  | 100 => ⟨S262144x1, .f32⟩
  | 101 => ⟨S262144x3, .f32⟩
  | 102 => ⟨S262144x3, .f32⟩
  | 103 => ⟨S262144x3, .f32⟩
  | 104 => ⟨S262144x5, .f32⟩
  | 105 => ⟨S262144x5, .f32⟩
  | 106 => ⟨S262144x5, .f32⟩
  | 107 => ⟨S262144x7, .f32⟩
  | 108 => ⟨S262144x7, .f32⟩
  | 109 => ⟨S262144x7, .f32⟩
  | 110 => ⟨S262144x9, .f32⟩
  | 111 => ⟨S262144x9, .f32⟩
  | 112 => ⟨S262144x9, .f32⟩
  | 113 => ⟨S262144x11, .f32⟩
  | 114 => ⟨S262144x11, .f32⟩
  | 115 => ⟨S262144x11, .f32⟩
  | 116 => ⟨S262144x13, .f32⟩
  | 117 => ⟨S262144x13, .f32⟩
  | 118 => ⟨S262144x13, .f32⟩
  | 119 => ⟨S262144x15, .f32⟩
  | 120 => ⟨S262144x15, .f32⟩
  | 121 => ⟨S262144x15, .f32⟩
  | 122 => ⟨S262144x17, .f32⟩
  | 123 => ⟨S262144x17, .f32⟩
  | 124 => ⟨S262144x17, .f32⟩
  | 125 => ⟨S262144x19, .f32⟩
  | 126 => ⟨S262144x100, .f32⟩
  | 127 => ⟨S1x100, .f32⟩
  | _ => ⟨S262144x2, .f32⟩

abbrev hbmTy0_3 (i : Nat) : BufTy := match i % 128 with
  | 0 => ⟨S262144x100, .f32⟩
  | 1 => ⟨S262144x100, .f32⟩
  | _ => ⟨S262144x2, .f32⟩

abbrev hbmTy (i : Nat) : BufTy := match i / 128 with
  | 0 => hbmTy0_0 i
  | 1 => hbmTy0_1 i
  | 2 => hbmTy0_2 i
  | 3 => hbmTy0_3 i
  | _ => ⟨S262144x2, .f32⟩

abbrev bufTy : (tb : Table) → Fin (tcTables nBuf tb) → BufTy
  | .hbm, ⟨i, _⟩ => hbmTy i
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_12 : Ref sig .tc := ⟨.hbm, 58, rfl⟩
abbrev main_v41 : Ref sig .tc := ⟨.hbm, 59, rfl⟩
abbrev main_v42 : Ref sig .tc := ⟨.hbm, 60, rfl⟩
abbrev main_c_13 : Ref sig .tc := ⟨.hbm, 61, rfl⟩
abbrev main_v43 : Ref sig .tc := ⟨.hbm, 62, rfl⟩
abbrev main_v44 : Ref sig .tc := ⟨.hbm, 63, rfl⟩
abbrev main_call1_v0 : Ref sig .tc := ⟨.hbm, 64, rfl⟩
abbrev main_call1_v1 : Ref sig .tc := ⟨.hbm, 65, rfl⟩
abbrev main_v45 : Ref sig .tc := ⟨.hbm, 66, rfl⟩
abbrev main_call2_v0 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_19 : Ref sig .tc := ⟨.hbm, 92, rfl⟩
abbrev main_v65 : Ref sig .tc := ⟨.hbm, 93, rfl⟩
abbrev main_v66 : Ref sig .tc := ⟨.hbm, 94, rfl⟩
abbrev main_c_20 : Ref sig .tc := ⟨.hbm, 95, rfl⟩
abbrev main_v67 : Ref sig .tc := ⟨.hbm, 96, rfl⟩
abbrev main_v68 : Ref sig .tc := ⟨.hbm, 97, rfl⟩
abbrev main_call3_v0 : Ref sig .tc := ⟨.hbm, 98, rfl⟩
abbrev main_call3_v1 : Ref sig .tc := ⟨.hbm, 99, rfl⟩
abbrev main_v69 : Ref sig .tc := ⟨.hbm, 100, rfl⟩
abbrev main_call4_v0 : Ref sig .tc := ⟨.hbm, 101, rfl⟩
abbrev main_v70 : Ref sig .tc := ⟨.hbm, 102, rfl⟩
abbrev main_cst_21 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_22 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_23 : Ref sig .tc := ⟨.hbm, 112, rfl⟩
abbrev main_v78 : Ref sig .tc := ⟨.hbm, 113, rfl⟩
abbrev main_v79 : Ref sig .tc := ⟨.hbm, 114, rfl⟩
abbrev main_cst_24 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_25 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_26 : Ref sig .tc := ⟨.hbm, 126, rfl⟩
abbrev main_v89 : Ref sig .tc := ⟨.hbm, 127, rfl⟩
abbrev main_v90 : Ref sig .tc := ⟨.hbm, 128, rfl⟩
abbrev main_c_27 : Ref sig .tc := ⟨.hbm, 129, rfl⟩
abbrev main_v91 : Ref sig .tc := ⟨.hbm, 130, rfl⟩
abbrev main_v92 : Ref sig .tc := ⟨.hbm, 131, rfl⟩
abbrev main_call5_v0 : Ref sig .tc := ⟨.hbm, 132, rfl⟩
abbrev main_call5_v1 : Ref sig .tc := ⟨.hbm, 133, rfl⟩
abbrev main_v93 : Ref sig .tc := ⟨.hbm, 134, rfl⟩
abbrev main_call6_v0 : Ref sig .tc := ⟨.hbm, 135, rfl⟩
abbrev main_v94 : Ref sig .tc := ⟨.hbm, 136, rfl⟩
abbrev main_cst_28 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_29 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_30 : Ref sig .tc := ⟨.hbm, 146, rfl⟩
abbrev main_v102 : Ref sig .tc := ⟨.hbm, 147, rfl⟩
abbrev main_v103 : Ref sig .tc := ⟨.hbm, 148, rfl⟩
abbrev main_cst_31 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_32 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_c_33 : Ref sig .tc := ⟨.hbm, 160, rfl⟩
abbrev main_v113 : Ref sig .tc := ⟨.hbm, 161, rfl⟩
abbrev main_v114 : Ref sig .tc := ⟨.hbm, 162, rfl⟩
abbrev main_c_34 : Ref sig .tc := ⟨.hbm, 163, rfl⟩
abbrev main_v115 : Ref sig .tc := ⟨.hbm, 164, rfl⟩
abbrev main_v116 : Ref sig .tc := ⟨.hbm, 165, rfl⟩
abbrev main_call7_v0 : Ref sig .tc := ⟨.hbm, 166, rfl⟩
abbrev main_call7_v1 : Ref sig .tc := ⟨.hbm, 167, rfl⟩
abbrev main_v117 : Ref sig .tc := ⟨.hbm, 168, rfl⟩
abbrev main_call8_v0 : Ref sig .tc := ⟨.hbm, 169, rfl⟩
abbrev main_v118 : Ref sig .tc := ⟨.hbm, 170, rfl⟩
abbrev main_cst_35 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_36 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_37 : Ref sig .tc := ⟨.hbm, 180, rfl⟩
abbrev main_v126 : Ref sig .tc := ⟨.hbm, 181, rfl⟩
abbrev main_v127 : Ref sig .tc := ⟨.hbm, 182, rfl⟩
abbrev main_cst_38 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_39 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_40 : Ref sig .tc := ⟨.hbm, 194, rfl⟩
abbrev main_v137 : Ref sig .tc := ⟨.hbm, 195, rfl⟩
abbrev main_v138 : Ref sig .tc := ⟨.hbm, 196, rfl⟩
abbrev main_c_41 : Ref sig .tc := ⟨.hbm, 197, rfl⟩
abbrev main_v139 : Ref sig .tc := ⟨.hbm, 198, rfl⟩
abbrev main_v140 : Ref sig .tc := ⟨.hbm, 199, rfl⟩
abbrev main_call9_v0 : Ref sig .tc := ⟨.hbm, 200, rfl⟩
abbrev main_call9_v1 : Ref sig .tc := ⟨.hbm, 201, rfl⟩
abbrev main_v141 : Ref sig .tc := ⟨.hbm, 202, rfl⟩
abbrev main_call10_v0 : Ref sig .tc := ⟨.hbm, 203, rfl⟩
abbrev main_v142 : Ref sig .tc := ⟨.hbm, 204, rfl⟩
abbrev main_cst_42 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_43 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_44 : Ref sig .tc := ⟨.hbm, 214, rfl⟩
abbrev main_v150 : Ref sig .tc := ⟨.hbm, 215, rfl⟩
abbrev main_v151 : Ref sig .tc := ⟨.hbm, 216, rfl⟩
abbrev main_cst_45 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_46 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_c_47 : Ref sig .tc := ⟨.hbm, 228, rfl⟩
abbrev main_v161 : Ref sig .tc := ⟨.hbm, 229, rfl⟩
abbrev main_v162 : Ref sig .tc := ⟨.hbm, 230, rfl⟩
abbrev main_c_48 : Ref sig .tc := ⟨.hbm, 231, rfl⟩
abbrev main_v163 : Ref sig .tc := ⟨.hbm, 232, rfl⟩
abbrev main_v164 : Ref sig .tc := ⟨.hbm, 233, rfl⟩
abbrev main_call11_v0 : Ref sig .tc := ⟨.hbm, 234, rfl⟩
abbrev main_call11_v1 : Ref sig .tc := ⟨.hbm, 235, rfl⟩
abbrev main_v165 : Ref sig .tc := ⟨.hbm, 236, rfl⟩
abbrev main_call12_v0 : Ref sig .tc := ⟨.hbm, 237, rfl⟩
abbrev main_v166 : Ref sig .tc := ⟨.hbm, 238, rfl⟩
abbrev main_cst_49 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_50 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_cst_51 : Ref sig .tc := ⟨.hbm, 248, rfl⟩
abbrev main_v174 : Ref sig .tc := ⟨.hbm, 249, rfl⟩
abbrev main_v175 : Ref sig .tc := ⟨.hbm, 250, rfl⟩
abbrev main_cst_52 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_53 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_c_54 : Ref sig .tc := ⟨.hbm, 262, rfl⟩
abbrev main_v185 : Ref sig .tc := ⟨.hbm, 263, rfl⟩
abbrev main_v186 : Ref sig .tc := ⟨.hbm, 264, rfl⟩
abbrev main_c_55 : Ref sig .tc := ⟨.hbm, 265, rfl⟩
abbrev main_v187 : Ref sig .tc := ⟨.hbm, 266, rfl⟩
abbrev main_v188 : Ref sig .tc := ⟨.hbm, 267, rfl⟩
abbrev main_call13_v0 : Ref sig .tc := ⟨.hbm, 268, rfl⟩
abbrev main_call13_v1 : Ref sig .tc := ⟨.hbm, 269, rfl⟩
abbrev main_v189 : Ref sig .tc := ⟨.hbm, 270, rfl⟩
abbrev main_call14_v0 : Ref sig .tc := ⟨.hbm, 271, rfl⟩
abbrev main_v190 : Ref sig .tc := ⟨.hbm, 272, rfl⟩
abbrev main_cst_56 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_cst_57 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_cst_58 : Ref sig .tc := ⟨.hbm, 282, rfl⟩
abbrev main_v198 : Ref sig .tc := ⟨.hbm, 283, rfl⟩
abbrev main_v199 : Ref sig .tc := ⟨.hbm, 284, rfl⟩
abbrev main_cst_59 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_cst_60 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_c_61 : Ref sig .tc := ⟨.hbm, 296, rfl⟩
abbrev main_v209 : Ref sig .tc := ⟨.hbm, 297, rfl⟩
abbrev main_v210 : Ref sig .tc := ⟨.hbm, 298, rfl⟩
abbrev main_c_62 : Ref sig .tc := ⟨.hbm, 299, rfl⟩
abbrev main_v211 : Ref sig .tc := ⟨.hbm, 300, rfl⟩
abbrev main_v212 : Ref sig .tc := ⟨.hbm, 301, rfl⟩
abbrev main_call15_v0 : Ref sig .tc := ⟨.hbm, 302, rfl⟩
abbrev main_call15_v1 : Ref sig .tc := ⟨.hbm, 303, rfl⟩
abbrev main_v213 : Ref sig .tc := ⟨.hbm, 304, rfl⟩
abbrev main_call16_v0 : Ref sig .tc := ⟨.hbm, 305, rfl⟩
abbrev main_v214 : Ref sig .tc := ⟨.hbm, 306, rfl⟩
abbrev main_cst_63 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_cst_64 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_cst_65 : Ref sig .tc := ⟨.hbm, 316, rfl⟩
abbrev main_v222 : Ref sig .tc := ⟨.hbm, 317, rfl⟩
abbrev main_v223 : Ref sig .tc := ⟨.hbm, 318, rfl⟩
abbrev main_cst_66 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_cst_67 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_c_68 : Ref sig .tc := ⟨.hbm, 330, rfl⟩
abbrev main_v233 : Ref sig .tc := ⟨.hbm, 331, rfl⟩
abbrev main_v234 : Ref sig .tc := ⟨.hbm, 332, rfl⟩
abbrev main_c_69 : Ref sig .tc := ⟨.hbm, 333, rfl⟩
abbrev main_v235 : Ref sig .tc := ⟨.hbm, 334, rfl⟩
abbrev main_v236 : Ref sig .tc := ⟨.hbm, 335, rfl⟩
abbrev main_call17_v0 : Ref sig .tc := ⟨.hbm, 336, rfl⟩
abbrev main_call17_v1 : Ref sig .tc := ⟨.hbm, 337, rfl⟩
abbrev main_v237 : Ref sig .tc := ⟨.hbm, 338, rfl⟩
abbrev main_call18_v0 : Ref sig .tc := ⟨.hbm, 339, rfl⟩
abbrev main_v238 : Ref sig .tc := ⟨.hbm, 340, rfl⟩
abbrev main_c_70 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_call19_v0 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩

abbrev nD : Nat := 1
abbrev τ : Topo := Topo.v7x

variable {F : FTy → Type} [FloatOps F]
-- ==== Proof.Legendre.lean ====
/- The mathematics of the two programs, over the real numbers and with no program in sight.

   The reference runs the recurrence of the associated Legendre functions in the degree. The kernel writes the
   same function as `s ^ m` times a polynomial in `x`, given by its coefficients in the Chebyshev basis. This file
   defines the coefficients by the recurrence carried out on lists of rational numbers (`coeffs`), and proves that
   they are right: `legendre_eq`. -/
module

public import Mathlib.Data.Rat.Cast.CharZero
public import Mathlib.Analysis.SpecialFunctions.Trigonometric.Basic
public import Mathlib.Tactic.FieldSimp
public import Mathlib.Tactic.LinearCombination
public import Mathlib.Tactic.Ring

@[expose] public section

noncomputable section

namespace Cert.Proof

/-! ## Chebyshev polynomials -/

/-- The Chebyshev polynomial of degree `k` at `x`, by its three-term recurrence. -/
def cheb (x : ℝ) : ℕ → ℝ
  | 0 => 1
  | 1 => x
  | k + 2 => (x + x) * cheb x (k + 1) - cheb x k

/-- The sum of `c₀ T_n + c₁ T_{n+1} + …` at `x`, for a list `c₀, c₁, …` of rational coefficients. -/
def evalFrom (x : ℝ) : ℕ → List ℚ → ℝ
  | _, [] => 0
  | n, c :: cs => (c : ℝ) * cheb x n + evalFrom x (n + 1) cs

/-! ## Lists of coefficients (computable: the tables are compared with them by evaluation) -/

end Cert.Proof

end

namespace Cert.Proof

/-- The sum of two coefficient lists. -/
def addL : List ℚ → List ℚ → List ℚ
  | [], ys => ys
  | x :: xs, [] => x :: xs
  | x :: xs, y :: ys => (x + y) :: addL xs ys

/-- A coefficient list times a number. -/
def smulL (a : ℚ) : List ℚ → List ℚ
  | [] => []
  | x :: xs => (a * x) :: smulL a xs

/-- The coefficients of `x` times a polynomial: `x T_0 = T_1`, and `x T_n = (T_{n+1} + T_{n-1}) / 2` above. -/
def mulX : List ℚ → List ℚ
  | [] => []
  | c :: cs => addL (0 :: c :: smulL (1 / 2) cs) (smulL (1 / 2) cs)

/-- The factor on the diagonal, `(-1) (-3) ⋯ (-(2m-1))`. -/
def diagQ : ℕ → ℚ
  | 0 => 1
  | m + 1 => -(2 * (m + 1) - 1) * diagQ m

/-- The coefficients of degree `m + t` at order `m`, with those of the degree below it (none at `t = 0`). -/
def coeffPair (m : ℕ) : ℕ → List ℚ × List ℚ
  | 0 => ([diagQ m], [])
  | t + 1 =>
    let p := coeffPair m t
    (addL (smulL ((2 * ((m : ℚ) + t + 1) - 1) / (t + 1)) (mulX p.1))
      (smulL (-((m : ℚ) + t + 1 + m - 1) / (t + 1)) p.2), p.1)

/-- The Chebyshev coefficients of the polynomial that `s ^ m` multiplies in degree `l` and order `m`. -/
def coeffs (l m : ℕ) : List ℚ := (coeffPair m (l - m)).1

end Cert.Proof

noncomputable section

namespace Cert.Proof

/-- Evaluating a sum of coefficient lists is adding the values. -/
theorem evalFrom_addL (x : ℝ) (xs : List ℚ) : ∀ (n : ℕ) (ys : List ℚ),
    evalFrom x n (addL xs ys) = evalFrom x n xs + evalFrom x n ys := by
  induction xs with
  | nil => intro n ys; simp [addL, evalFrom]
  | cons a as ih =>
    intro n ys
    cases ys with
    | nil => simp [addL, evalFrom]
    | cons b bs => simp only [addL, evalFrom, ih]; push_cast; ring

/-- Evaluating a scaled list is scaling the value. -/
theorem evalFrom_smulL (x : ℝ) (a : ℚ) (xs : List ℚ) : ∀ n : ℕ,
    evalFrom x n (smulL a xs) = a * evalFrom x n xs := by
  induction xs with
  | nil => intro n; simp [smulL, evalFrom]
  | cons b bs ih => intro n; simp only [smulL, evalFrom, ih]; push_cast; ring

/-- Shifting a list up and down by one and halving is multiplication by `x`, away from `T_0`. -/
theorem evalFrom_shift (x : ℝ) (cs : List ℚ) : ∀ n : ℕ,
    evalFrom x (n + 2) cs + evalFrom x n cs = (x + x) * evalFrom x (n + 1) cs := by
  induction cs with
  | nil => intro n; simp [evalFrom]
  | cons c cs ih =>
    intro n
    have h := ih (n + 1)
    have hc : cheb x (n + 2) = (x + x) * cheb x (n + 1) - cheb x n := rfl
    simp only [evalFrom]
    rw [hc]
    linear_combination h

/-- Evaluating the list of `x` times a polynomial is multiplying the value by `x`. -/
theorem evalFrom_mulX (x : ℝ) (cs : List ℚ) : evalFrom x 0 (mulX cs) = x * evalFrom x 0 cs := by
  cases cs with
  | nil => simp [mulX, evalFrom]
  | cons c cs =>
    have h := evalFrom_shift x cs 0
    simp only [mulX, evalFrom_addL, evalFrom, evalFrom_smulL, cheb]
    push_cast
    simp only [Nat.zero_add] at h ⊢
    linear_combination (1 / 2 : ℝ) * h

/-! ## The associated Legendre functions -/

/-- The diagonal `P_m^m`, by the reference's product. -/
def diagR (s : ℝ) : ℕ → ℝ
  | 0 => 1
  | m + 1 => -(2 * ((m : ℝ) + 1) - 1) * s * diagR s m

/-- One step of the recurrence in the degree, to degree `l`, from the two degrees below: zero above the
    diagonal, the diagonal's product on it, and the three-term recurrence below it. -/
def step (x s : ℝ) (l m : ℕ) (p q : ℝ) : ℝ :=
  if m < l then ((2 * (l : ℝ) - 1) * x * p - ((l : ℝ) + m - 1) * q) / ((l : ℝ) - m)
  else if m = l then diagR s l else 0

/-- `P_l^m` with the value at the degree below (zero at `l = 0`), as the reference computes them. -/
def legendrePair (x s : ℝ) (m : ℕ) : ℕ → ℝ × ℝ
  | 0 => (if m = 0 then 1 else 0, 0)
  | l + 1 => (step x s (l + 1) m (legendrePair x s m l).1 (legendrePair x s m l).2, (legendrePair x s m l).1)

/-- The associated Legendre function `P_l^m`. -/
def legendre (x s : ℝ) (l m : ℕ) : ℝ := (legendrePair x s m l).1

/-- The diagonal is `s ^ m` times its rational coefficient. -/
theorem diagR_eq (s : ℝ) (m : ℕ) : diagR s m = s ^ m * (diagQ m : ℝ) := by
  induction m with
  | zero => simp [diagR, diagQ]
  | succ m ih => simp only [diagR, diagQ, ih]; push_cast; ring

/-- Below its order the function is zero. -/
theorem legendrePair_above (x s : ℝ) (m l : ℕ) (h : l < m) : (legendrePair x s m l).1 = 0 := by
  cases l with
  | zero => simp [legendrePair]; omega
  | succ l => simp only [legendrePair, step]; rw [if_neg (by omega), if_neg (by omega)]

/-- At its order the function is the diagonal. -/
theorem legendrePair_diag (x s : ℝ) (m : ℕ) :
    legendrePair x s m m = (s ^ m * (diagQ m : ℝ), 0) := by
  cases m with
  | zero => simp [legendrePair, diagQ]
  | succ m =>
    have h0 := legendrePair_above x s (m + 1) m (by omega)
    rw [legendrePair, h0, step, if_neg (by omega), if_pos rfl, diagR_eq]

/-- From its order on, the function is `s ^ m` times the polynomial with the rational coefficients. -/
theorem legendrePair_eq (x s : ℝ) (m t : ℕ) :
    legendrePair x s m (m + t)
      = (s ^ m * evalFrom x 0 (coeffPair m t).1, s ^ m * evalFrom x 0 (coeffPair m t).2) := by
  induction t with
  | zero => simp [legendrePair_diag, coeffPair, evalFrom, cheb]
  | succ t ih =>
    rw [← Nat.add_assoc, legendrePair, ih, step, if_pos (by omega)]
    simp only [coeffPair, evalFrom_addL, evalFrom_smulL, evalFrom_mulX]
    have h : ((t : ℝ) + 1) ≠ 0 := by positivity
    refine Prod.ext ?_ rfl
    push_cast
    rw [show (m : ℝ) + t + 1 - m = t + 1 by ring]
    field_simp
    ring

/-- The Legendre function is `s ^ m` times the polynomial with the listed Chebyshev coefficients. -/
theorem legendre_eq (x s : ℝ) (l m : ℕ) (h : m ≤ l) :
    legendre x s l m = s ^ m * evalFrom x 0 (coeffs l m) := by
  have := legendrePair_eq x s m (l - m)
  rw [Nat.add_sub_cancel' h] at this
  rw [legendre, this, coeffs]

/-! ## Powers of `s (cos φ + i sin φ)` -/

/-- The real and imaginary part of the `m`-th power of `wr + i wi`, by repeated multiplication. -/
def cpow (wr wi : ℝ) : ℕ → ℝ × ℝ
  | 0 => (1, 0)
  | m + 1 => ((cpow wr wi m).1 * wr - (cpow wr wi m).2 * wi, (cpow wr wi m).1 * wi + (cpow wr wi m).2 * wr)

/-- De Moivre: the power's real and imaginary part. -/
theorem cpow_eq (s φ : ℝ) (m : ℕ) : cpow (s * Real.cos φ) (s * Real.sin φ) m
    = (s ^ m * Real.cos (m * φ), s ^ m * Real.sin (m * φ)) := by
  induction m with
  | zero => simp [cpow]
  | succ m ih =>
    have h : ((m + 1 : ℕ) : ℝ) * φ = m * φ + φ := by push_cast; ring
    rw [cpow, ih, h, Real.cos_add, Real.sin_add]
    refine Prod.ext ?_ ?_ <;> simp only [] <;> ring

end Cert.Proof

end
-- ==== Proof.Product.lean ====
/- The kernel's matrix product, read at an entry of its block. -/
module

public import proofs.«01_k».proof.Proof.Gen.KernelIdeal.Frame
public import Idealize.ShloMosaic.Lib.Pointwise

@[expose] public section

noncomputable section

namespace Cert.Proof

open Idealize.ShloMosaic Cert.KernelIdeal Cert.KernelIdeal.Gen

/-- One contraction over the 96 stacked features: the 32 features, the same again, and the features less themselves
    (the low part of the split, which is nothing where a change of format is the identity). -/
def contraction (f : Fin 32 → EReal) (t : Fin 96 → EReal) : EReal :=
  ∑ x : Fin 96, (if h : (x : ℕ) < 32 then f ⟨x, h⟩
    else if h' : (x : ℕ) - 32 < 32 then f ⟨x - 32, h'⟩
    else f ⟨x - 32 - 32, by omega⟩ - f ⟨x - 32 - 32, by omega⟩) * t x

/-- The stored block at row `p` and lane `j`: the product of the contractions with columns `j` and `128 + j`. -/
theorem pay38_apply (f : FVec Ideal S32x16384 .f32) (t : Vec Ideal S96x256 .bf16) (p : Fin 16384) (j : Fin 128) :
    k0_pay38 (F := Ideal) f t (ix2 p j)
      = contraction (fun k => f (ix2 k p)) (fun x => t (ix2 x ⟨j, by omega⟩))
        * contraction (fun k => f (ix2 k p)) (fun x => t (ix2 x ⟨128 + j, by omega⟩)) := by
  unfold contraction
  pointwise [k0_pay38]

/-- The inclusion of the real numbers respects finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real features, and against a column whose middle third is zero and whose outer thirds are equal, a contraction
    is the plain real sum. -/
theorem contraction_real (f : Fin 32 → EReal) (t : Fin 96 → EReal) (g u : Fin 32 → ℝ)
    (hf : ∀ k, f k = (g k : EReal)) (h0 : ∀ k : Fin 32, t ⟨k, by omega⟩ = (u k : EReal))
    (h1 : ∀ k : Fin 32, t ⟨32 + k, by omega⟩ = 0) (h2 : ∀ k : Fin 32, t ⟨64 + k, by omega⟩ = (u k : EReal)) :
    contraction f t = ((∑ k, g k * u k : ℝ) : EReal) := by
  unfold contraction
  rw [Fin.sum_univ_two_halves 32 64 rfl, Fin.sum_univ_two_halves 32 32 rfl]
  have e1 : ∀ k : Fin 32, ¬ (32 + (k : ℕ) < 32) := fun k => by omega
  have e2 : ∀ k : Fin 32, ¬ (32 + (32 + (k : ℕ)) < 32) := fun k => by omega
  have e3 : ∀ k : Fin 32, ¬ (32 + (32 + (k : ℕ)) - 32 < 32) := fun k => by omega
  have e4 : ∀ k : Fin 32, t ⟨32 + (32 + k), by omega⟩ = (u k : EReal) := fun k => by
    rw [← h2]; congr 2; omega
  simp [hf, h0, h1, e1, e2, e3, e4, coe_sum]

end Cert.Proof

end
-- ==== Proof.Features.lean ====
/- The kernel's 32 features of a point, read as real numbers.

   The body stacks ten Chebyshev polynomials of `cos θ`, the real and the imaginary parts of the first ten powers of
   `sin θ (cos φ + i sin φ)`, and two rows of zeros. -/
module

public import proofs.«01_k».proof.Proof.Legendre
public import proofs.«01_k».proof.Proof.Product
public import Idealize.ShloMosaic.Lib.IdealHost
public import Idealize.ShloMosaic.Lib.Pipeline.Value
public import Idealize.ShloMosaic.Lib.Pipeline.ValueKit.Tiles

@[expose] public section

noncomputable section

namespace Cert.Proof

open Idealize.ShloMosaic Cert.KernelIdeal Cert.KernelIdeal.Gen

/-- Feature `k` of the point with angles `φ` and `θ`. -/
def feature (φ θ : ℝ) (k : ℕ) : ℝ :=
  if k < 10 then cheb (Real.cos θ) k
  else if k < 20 then (cpow (Real.sin θ * Real.cos φ) (Real.sin θ * Real.sin φ) (k - 10)).1
  else if k < 30 then (cpow (Real.sin θ * Real.cos φ) (Real.sin θ * Real.sin φ) (k - 20)).2
  else 0

/-- The angle a stored longitude or latitude is turned into: shifted by `d` degrees, times the word for π/180. -/
def angle (r : ℝ) (d : BitVec 32) : EReal := ((r : EReal) + Ideal.ofBits .f32 d) * Ideal.ofBits .f32 0x3C8EFA35#32

/-! ## The rows of the stack -/

/-- The Chebyshev rows of a row `x`. -/
def chebRow (x : FVec Ideal S1x16384 .f32) : ℕ → FVec Ideal S1x16384 .f32
  | 0 => k0_pay8
  | 1 => x
  | k + 2 => subf (mulf (addf x x) (chebRow x (k + 1))) (chebRow x k)

/-- The rows of the powers of `wr + i wi`: real and imaginary parts. -/
def cpowRow (wr wi : FVec Ideal S1x16384 .f32) : ℕ → FVec Ideal S1x16384 .f32 × FVec Ideal S1x16384 .f32
  | 0 => (k0_pay8, k0_pay9)
  | m + 1 => (subf (mulf (cpowRow wr wi m).1 wr) (mulf (cpowRow wr wi m).2 wi),
      addf (mulf (cpowRow wr wi m).1 wi) (mulf (cpowRow wr wi m).2 wr))

/-- Row `k` of the stack the body builds from a block of points. -/
def featureRow (v : Vec Ideal S2x16384 .f32) (k : ℕ) : FVec Ideal S1x16384 .f32 :=
  if k < 10 then chebRow (k0_pay4 v) k
  else if k < 20 then (cpowRow (k0_pay6 v) (k0_pay7 v) (k - 10)).1
  else if k < 30 then (cpowRow (k0_pay6 v) (k0_pay7 v) (k - 20)).2
  else k0_pay9

/-- The constant row of ones. -/
theorem one_apply (i : S1x16384.Idx) : k0_pay8 (F := Ideal) i = 1 := by pointwise [k0_pay8]
/-- The constant row of zeros. -/
theorem zero_apply (i : S1x16384.Idx) : k0_pay9 (F := Ideal) i = 0 := by pointwise [k0_pay9]

/-- A Chebyshev row holds the Chebyshev polynomial's value, where its argument is a real number. -/
theorem chebRow_apply {x : FVec Ideal S1x16384 .f32} {i : S1x16384.Idx} {r : ℝ} (h : x i = (r : EReal)) :
    ∀ k : ℕ, chebRow x k i = (cheb r k : EReal)
  | 0 => one_apply i
  | 1 => h
  | k + 2 => by
    show (x i + x i) * chebRow x (k + 1) i - chebRow x k i = _
    rw [h, chebRow_apply h (k + 1), chebRow_apply h k, cheb, EReal.coe_sub, EReal.coe_mul, EReal.coe_add]

/-- The rows of the complex power hold its real and imaginary part, where the base is a pair of real numbers. -/
theorem cpowRow_apply {wr wi : FVec Ideal S1x16384 .f32} {i : S1x16384.Idx} {u v : ℝ}
    (hr : wr i = (u : EReal)) (hi : wi i = (v : EReal)) (m : ℕ) :
    (cpowRow wr wi m).1 i = ((cpow u v m).1 : EReal) ∧ (cpowRow wr wi m).2 i = ((cpow u v m).2 : EReal) := by
  induction m with
  | zero => exact ⟨one_apply i, zero_apply i⟩
  | succ m ih =>
    constructor
    · show (cpowRow wr wi m).1 i * wr i - (cpowRow wr wi m).2 i * wi i = _
      rw [hr, hi, ih.1, ih.2, cpow, EReal.coe_sub, EReal.coe_mul, EReal.coe_mul]
    · show (cpowRow wr wi m).1 i * wi i + (cpowRow wr wi m).2 i * wr i = _
      rw [hr, hi, ih.1, ih.2, cpow, EReal.coe_add, EReal.coe_mul, EReal.coe_mul]

/-- On a point with real angles a row of the stack holds the real feature. -/
theorem featureRow_apply (v : Vec Ideal S2x16384 .f32) (p : Fin 16384) (φ θ lon lat : ℝ)
    (hlon : v (ix2 0 p) = (lon : EReal)) (hlat : v (ix2 1 p) = (lat : EReal))
    (hφ : angle lon 0x43340000#32 = (φ : EReal)) (hθ : angle lat 0x42B40000#32 = (θ : EReal)) (k : ℕ) :
    featureRow v k (ix2 0 p) = (feature φ θ k : EReal) := by
  have e2 : k0_pay2 v (ix2 0 p) = (φ : EReal) := by
    rw [← hφ, angle, ← hlon]; pointwise [k0_pay2, k0_pay1]
  have e3 : k0_pay3 v (ix2 0 p) = (θ : EReal) := by
    rw [← hθ, angle, ← hlat]; pointwise [k0_pay3, k0_pay1]
  have c : k0_pay4 v (ix2 0 p) = (Real.cos θ : EReal) := by
    show Ideal.cos (k0_pay3 v (ix2 0 p)) = _; rw [e3]; rfl
  have e5 : k0_pay5 v (ix2 0 p) = (Real.sin θ : EReal) := by
    show Ideal.sin (k0_pay3 v (ix2 0 p)) = _; rw [e3]; rfl
  have e6 : k0_pay6 v (ix2 0 p) = ((Real.sin θ * Real.cos φ : ℝ) : EReal) := by
    show k0_pay5 v (ix2 0 p) * Ideal.cos (k0_pay2 v (ix2 0 p)) = _
    rw [e5, e2, EReal.coe_mul]; rfl
  have e7 : k0_pay7 v (ix2 0 p) = ((Real.sin θ * Real.sin φ : ℝ) : EReal) := by
    show k0_pay5 v (ix2 0 p) * Ideal.sin (k0_pay2 v (ix2 0 p)) = _
    rw [e5, e2, EReal.coe_mul]; rfl
  unfold featureRow feature
  split_ifs
  · exact chebRow_apply c k
  · exact (cpowRow_apply e6 e7 _).1
  · exact (cpowRow_apply e6 e7 _).2
  · exact zero_apply _

/-! ## The stack -/

/-- The stack of the 32 rows. -/
def stack (v : Vec Ideal S2x16384 .f32) : FVec Ideal S32x16384 .f32 :=
  concatenate S32x16384 0 (List.ofFn fun n : Fin 32 => ⟨S1x16384, featureRow v n⟩)
    concatenates_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S1x16384_S32x16384_d0

/-- Row `k` of the stack is feature row `k`. -/
theorem stack_apply (v : Vec Ideal S2x16384 .f32) (k : Fin 32) (p : Fin 16384) :
    stack v (ix2 k p) = featureRow v k (ix2 0 p) := by
  unfold stack
  exact concatenate_ofFn_unit_apply (t := S32x16384) (s₁ := S1x16384) 0 (fun n : Fin 32 => featureRow v n) _ rfl rfl (ix2 k p) k rfl
    (ix2 0 p)
    (fun b hb => by fin_cases b; · exact absurd rfl hb
                    · rfl)

set_option maxRecDepth 16384 in
/-- What the body stores is the product (`Product.lean`) of the stack and the table. -/
theorem out_eq (x0 : Vec Ideal S2x16384 .f32) (x1 : Vec Ideal S96x256 .bf16) :
    out0_2 x0 x1 = k0_pay38 (stack x0) x1 := by
  have hz : (![0, 0] : Fin 2 → Nat) = fun _ => 0 := funext fun a => by fin_cases a <;> rfl
  have h0 : View.ld x0 r0_0 = x0 := View.ld_unit_zero hz _ _
  have h1 : View.ld x1 r0_1 = x1 := View.ld_unit_zero hz _ _
  unfold_out out0_2
  rw [View.canon_unit_zero hz, h0, h1]
  rfl

end Cert.Proof

end
-- ==== Proof.Tables.lean ====
/- The kernel's table, checked entry by entry.

   The kernel is given its coefficients as a table of whole numbers, one column per spherical harmonic, with a power
   of two per column. This file compares that table with the coefficients of `Legendre.lean`, by evaluation. -/
module

public import proofs.«01_k».proof.KernelIdeal
public import proofs.«01_k».proof.ReferenceIdeal
public import proofs.«01_k».proof.Proof.Legendre

@[expose] public section

namespace Cert.Proof

/-- The degree of column `j`: columns `l² … l² + 2l` hold degree `l`. -/
def degOf (j : ℕ) : ℕ := ((List.range 9).filter fun l => (l + 1) * (l + 1) ≤ j).length

/-- The place of column `j` among the columns of its degree: order `m` is at place `l + m`. -/
def placeOf (j : ℕ) : ℕ := j - degOf j * degOf j

/-- Column `j` has a negative order: it carries the sine. -/
def isSine (j : ℕ) : Bool := placeOf j < degOf j

/-- The absolute value of the order of column `j`. -/
def ordOf (j : ℕ) : ℕ := if isSine j then degOf j - placeOf j else placeOf j - degOf j

/-- The row of the kernel's right operand that holds the trigonometric factor of column `j`. -/
def rowOf (j : ℕ) : ℕ := if isSine j then 20 + ordOf j else 10 + ordOf j

/-- The exponent `e` of column `j`, whose power of two is `2 ^ -e`, read off the exponent field of its word. -/
noncomputable def expOf (j : Fin 256) : ℕ := 127 - (KernelIdeal.lit1 j).toNat / 2 ^ 23

/-- The table's entry at row `k` and column `j`. -/
noncomputable def entry (k : Fin 32) (j : Fin 256) : BitVec 32 := KernelIdeal.lit0 ⟨k.val * 256 + j.val, by omega⟩

/-- Column `j` of the left half, as one list of rational numbers. -/
noncomputable def leftColumn (j : Fin 100) : List ℚ :=
  (List.finRange 32).map fun k => ((entry k ⟨j, by omega⟩).toInt : ℚ)

/-- A list of coefficients padded to the table's 32 rows and scaled by `2 ^ e`. -/
def scaled (e : ℕ) (c : List ℚ) : List ℚ :=
  (List.finRange 32).map fun k : Fin 32 => 2 ^ e * c.getD k.val 0

set_option maxRecDepth 65536 in
/-- The left half of the table is the list of Chebyshev coefficients, column by column. -/
theorem left_ok : ∀ j : Fin 100, leftColumn j = scaled (expOf ⟨j, by omega⟩) (coeffs (degOf j) (ordOf j)) := by
  decide +kernel

set_option maxRecDepth 65536 in
/-- The right half of the table picks one row per column. -/
theorem right_ok : ∀ j : Fin 100, ∀ k : Fin 32,
    entry k ⟨128 + j, by omega⟩ = if k.val = rowOf j then 1#32 else 0#32 := by
  decide +kernel

set_option maxRecDepth 65536 in
/-- Every column's power of two is the word with that exponent field and nothing else. -/
theorem pow_ok : ∀ j : Fin 256, expOf j ≤ 15 ∧ KernelIdeal.lit1 j = BitVec.ofNat 32 ((127 - expOf j) * 2 ^ 23) := by
  decide +kernel

set_option maxRecDepth 65536 in
/-- The right half is not scaled: its powers of two and its normalisations are one. -/
theorem scale_right_ok : ∀ j : Fin 100, KernelIdeal.lit1 ⟨128 + j, by omega⟩ = 0x3F800000#32
    ∧ KernelIdeal.lit2 ⟨128 + j, by omega⟩ = 0x3F800000#32 := by
  decide +kernel

set_option maxRecDepth 65536 in
/-- The kernel's normalisation of a column is the word that the reference multiplies by, and it is finite. -/
theorem norm_ok : ∀ j : Fin 100, KernelIdeal.lit2 ⟨j, by omega⟩ = ReferenceIdeal.lit0 j
    ∧ ((ReferenceIdeal.lit0 j).extractLsb' 23 8).toNat ≠ 255 := by
  decide +kernel

end Cert.Proof
-- ==== Proof.Words.lean ====
/- The words of the tables, read as real numbers. -/
module

public import proofs.«01_k».proof.Proof.Tables
public import Idealize.ShloMosaic.PureOps.Ideal
public import Mathlib.Tactic.IntervalCases

@[expose] public section

namespace Cert.Proof

open Idealize.ShloMosaic

/-- A word whose exponent field is not all ones denotes a real number. -/
theorem ofBits_real (b : BitVec 32) (h : (b.extractLsb' 23 8).toNat ≠ 255) :
    ∃ r : ℝ, Ideal.ofBits .f32 b = (r : EReal) := by
  simp only [Ideal.ofBits, Ideal.ieee]
  rw [if_neg (by simpa using h)]
  split <;> exact ⟨_, rfl⟩

/-- The powers of two in the table. -/
theorem ofBits_pow (e : ℕ) (h : e ≤ 15) :
    Ideal.ofBits .f32 (BitVec.ofNat 32 ((127 - e) * 2 ^ 23)) = (((2 ^ e)⁻¹ : ℝ) : EReal) := by
  interval_cases e <;> (simp [Ideal.ofBits, Ideal.ieee, -EReal.coe_mul]; try norm_num)

/-- The normalisation of column `j`, the real number that the word denotes. -/
noncomputable def normR (j : Fin 100) : ℝ := (ofBits_real _ (norm_ok j).2).choose

/-- The normalisation constant of column `j` is the real number `normR j`. -/
theorem normR_eq (j : Fin 100) : Ideal.ofBits .f32 (ReferenceIdeal.lit0 j) = (normR j : EReal) :=
  (ofBits_real _ (norm_ok j).2).choose_spec

/-- The entry of the left half, as a real number. -/
theorem entry_left (j : Fin 100) (k : Fin 32) :
    ((entry k ⟨j, by omega⟩).toInt : ℝ) * (2 ^ expOf ⟨j, by omega⟩)⁻¹
      = ((coeffs (degOf j) (ordOf j)).getD k 0 : ℝ) := by
  have h := left_ok j
  unfold leftColumn scaled at h
  replace h := List.map_inj_left.mp h k (List.mem_finRange k)
  have h' : ((entry k ⟨j, by omega⟩).toInt : ℝ)
      = 2 ^ expOf ⟨j, by omega⟩ * ((coeffs (degOf j) (ordOf j)).getD k 0 : ℝ) := by
    exact_mod_cast congrArg (fun q : ℚ => (q : ℝ)) h
  rw [h']
  field_simp

end Cert.Proof
-- ==== Proof.HostTable.lean ====
/- The table the kernel is launched with.

   The host lines before the launch turn the whole numbers of the table into floats, scale every column by its power
   of two and by its normalisation, and split the result into a high and a low part of bf16. Over the reals the high
   part is the table and the low part is zero. -/
module

public import proofs.«01_k».proof.Proof.Gen.KernelIdeal.Frame
public import proofs.«01_k».proof.Proof.Words
public import Idealize.ShloMosaic.Lib.IdealHost
public import Idealize.ShloMosaic.Lib.Pointwise

@[expose] public section

noncomputable section

namespace Cert.Proof

open Idealize.ShloMosaic Idealize.ShloMosaic.TcCoe Cert.KernelIdeal Cert.KernelIdeal.Gen

/-- The scaled table, before the split. -/
def scaledTable : FVec Ideal S32x256 .f32 :=
  mulf (mulf (sitofp .f32 (fun i => lit0 (S32x256.rowMajor i) : IVec S32x256 32))
      (broadcastInDim S32x256 ![0, 1] bcast_S1x256_S32x256_0_1 (broadcastInDim S1x256 ![1] bcast_S256_S1x256_1
        (fun i => FloatOps.ofBits .f32 (lit1 (S256.rowMajor i)) : FVec Ideal S256 .f32))))
    (broadcastInDim S32x256 ![0, 1] bcast_S1x256_S32x256_0_1 (broadcastInDim S1x256 ![1] bcast_S256_S1x256_1
      (fun i => FloatOps.ofBits .f32 (lit2 (S256.rowMajor i)) : FVec Ideal S256 .f32)))

/-- The table as the kernel gets it: high part, low part, high part. -/
def splitTable : FVec Ideal S96x256 .bf16 :=
  concatenate S96x256 0 [⟨S32x256, truncf .bf16 scaledTable bitsLt_bf16_f32⟩,
    ⟨S32x256, truncf .bf16 (subf scaledTable (extf .f32 (truncf .bf16 scaledTable bitsLt_bf16_f32) bitsLt_bf16_f32)) bitsLt_bf16_f32⟩,
    ⟨S32x256, truncf .bf16 scaledTable bitsLt_bf16_f32⟩] concatenates_S32x256_S32x256_S32x256_S96x256_d0

variable (m : (ℓ : Loc nD τ sig) → Buf (Elt Ideal) ℓ)

/-- The launch finds the split table in the kernel's second operand. -/
theorem V_table (c : Dev nD) : V m c main_v12 = splitTable := by
  unfold V V0 hostOps0
  simp only [List.flatten_cons, List.flatten_nil, List.append_nil]
  after_results
  rfl

/-- The launch finds the transposed points in the kernel's first operand. -/
theorem V_points (c : Dev nD) (a : Fin 2) (n : Fin 262144) :
    V m c main_v0 (ix2 a n) = m ((c : Thread nD τ).loc main_arg0) (ix2 n a) := by
  have h : V m c main_v0 = transpose S2x262144 [1, 0] (m ((c : Thread nD τ).loc main_arg0)) transposes_S262144x2_S2x262144_1_0 := by
    unfold V V0 hostOps0
    simp only [List.flatten_cons, List.flatten_nil, List.append_nil]
    after_results
  rw [h]
  pointwise

/-- An entry of the scaled table. -/
theorem scaledTable_apply (k : Fin 32) (j : Fin 256) :
    scaledTable (ix2 k j) = (((entry k j).toInt : ℝ) : EReal) * Ideal.ofBits .f32 (lit1 j) * Ideal.ofBits .f32 (lit2 j) := by
  have hk : S32x256.rowMajor (ix2 k j) = (⟨k.val * 256 + j.val, by omega⟩ : Fin 8192) :=
    Fin.ext (Shape.rowMajor_val_two _)
  have hj : S256.rowMajor (ix1 j) = (j : Fin 256) := Fin.ext (Shape.rowMajor_val_one _)
  unfold scaledTable entry
  pointwise
  rw [hk, hj]
  rfl

/-- The left half of the scaled table: the coefficients of a column times its normalisation. -/
theorem scaledTable_left (k : Fin 32) (j : Fin 100) :
    scaledTable (ix2 k ⟨j, by omega⟩) = ((normR j * ((coeffs (degOf j) (ordOf j)).getD k 0 : ℝ) : ℝ) : EReal) := by
  rw [scaledTable_apply, (pow_ok ⟨j, by omega⟩).2, ofBits_pow _ (pow_ok ⟨j, by omega⟩).1, (norm_ok j).1, normR_eq,
    ← EReal.coe_mul, ← EReal.coe_mul, entry_left, mul_comm]

/-- The right half of the scaled table: one row per column is one. -/
theorem scaledTable_right (k : Fin 32) (j : Fin 100) :
    scaledTable (ix2 k ⟨128 + j, by omega⟩) = ((if k.val = rowOf j then 1 else 0 : ℝ) : EReal) := by
  rw [scaledTable_apply, (scale_right_ok j).1, (scale_right_ok j).2, right_ok, Ideal.ofBits_one_f32, mul_one, mul_one]
  split <;> norm_num

/-- Where the scaled table is a real number, the split table holds it, then zero, then it again. -/
theorem splitTable_apply {k : Fin 32} {j : Fin 256} {u : ℝ} (h : scaledTable (ix2 k j) = (u : EReal)) :
    splitTable (ix2 (⟨k, by omega⟩ : Fin 96) j) = (u : EReal) ∧
    splitTable (ix2 (⟨32 + k, by omega⟩ : Fin 96) j) = 0 ∧
    splitTable (ix2 (⟨64 + k, by omega⟩ : Fin 96) j) = (u : EReal) := by
  unfold splitTable
  have hk := k.isLt
  refine ⟨?_, ?_, ?_⟩
  · pointwise
    exact h
  · pointwise
    rw [h, ← EReal.coe_sub, sub_self, EReal.coe_zero]
  · pointwise
    rw [dif_neg (by omega), dif_neg (by omega)]
    simpa [Nat.add_sub_cancel_left, show 64 + k.val - 32 - 32 = k.val by omega] using h

end Cert.Proof

end
-- ==== Proof.Block.lean ====
/- The kernel's block of results, point by point: real spherical harmonics.

   On a point with real angles, column `j` of the block is the normalisation of `j` times the cosine or sine of its
   order times the Legendre function of its degree and order. -/
module

public import proofs.«01_k».proof.Proof.Features
public import proofs.«01_k».proof.Proof.HostTable

@[expose] public section

noncomputable section

namespace Cert.Proof

open Idealize.ShloMosaic Cert.KernelIdeal Cert.KernelIdeal.Gen

/-- The trigonometric factor of column `j`. -/
def trig (φ : ℝ) (j : ℕ) : ℝ := if isSine j then Real.sin (ordOf j * φ) else Real.cos (ordOf j * φ)

/-- The real spherical harmonic of column `j`, with the programs' normalisation. -/
def harmonic (φ θ : ℝ) (j : Fin 100) : ℝ :=
  normR j * trig φ j * legendre (Real.cos θ) (Real.sin θ) (degOf j) (ordOf j)

set_option maxRecDepth 65536 in
theorem ord_bounds : ∀ j : Fin 100, ordOf j ≤ 9 ∧ ordOf j ≤ degOf j := by decide +kernel

set_option maxRecDepth 65536 in
theorem coeffs_length : ∀ j : Fin 100, (coeffs (degOf j) (ordOf j)).length ≤ 10 := by decide +kernel

/-- A polynomial given by a list is a sum over as many terms as one likes, past the end of the list. -/
theorem evalFrom_eq_sum (x : ℝ) (cs : List ℚ) : ∀ n N : ℕ, cs.length ≤ N →
    evalFrom x n cs = ∑ k ∈ Finset.range N, (cs.getD k 0 : ℝ) * cheb x (n + k) := by
  induction cs with
  | nil => intro n N _; simp [evalFrom]
  | cons c cs ih =>
    intro n N h
    obtain ⟨N, rfl⟩ : ∃ N', N = N' + 1 := ⟨N - 1, by simp at h; omega⟩
    rw [Finset.sum_range_succ', evalFrom, ih (n + 1) N (by simpa using h), add_comm]
    simp [Nat.add_right_comm n 1, Nat.add_assoc]

/-- The contraction with a left column: the normalisation times the polynomial of the column. -/
theorem left_sum (φ θ : ℝ) (j : Fin 100) :
    ∑ k : Fin 32, feature φ θ k * (normR j * ((coeffs (degOf j) (ordOf j)).getD k 0 : ℝ))
      = normR j * evalFrom (Real.cos θ) 0 (coeffs (degOf j) (ordOf j)) := by
  rw [evalFrom_eq_sum _ _ 0 32 ((coeffs_length j).trans (by decide)), Finset.mul_sum,
    Fin.sum_univ_eq_sum_range (fun k => feature φ θ k * (normR j * ((coeffs (degOf j) (ordOf j)).getD k 0 : ℝ))) 32]
  refine Finset.sum_congr rfl fun k _ => ?_
  by_cases hk : k < 10
  · rw [feature, if_pos hk, Nat.zero_add]; ring
  · have h := (coeffs_length j).trans (not_lt.mp hk)
    simp [List.getD, List.getElem?_eq_none h]

/-- The contraction with a right column: the row of powers the column picks. -/
theorem right_sum (φ θ : ℝ) (j : Fin 100) :
    ∑ k : Fin 32, feature φ θ k * (if k.val = rowOf j then 1 else 0 : ℝ)
      = Real.sin θ ^ ordOf j * trig φ j := by
  have hb := (ord_bounds j).1
  have hr : rowOf j < 32 := by unfold rowOf; split <;> omega
  rw [Fin.sum_univ_eq_sum_range (fun k => feature φ θ k * (if k = rowOf j then 1 else 0 : ℝ)) 32]
  simp only [mul_ite, mul_one, mul_zero]
  rw [Finset.sum_ite_eq', if_pos (Finset.mem_range.mpr hr)]
  unfold feature rowOf trig
  cases isSine j
  · rw [if_neg (by simp), if_pos (by simp; omega)]
    simp [cpow_eq]
  · rw [if_neg (by simp; omega), if_neg (by simp), if_pos (by simp; omega)]
    simp [cpow_eq]

/-- A block of the kernel, on a point with real angles. -/
theorem block_apply (v : Vec Ideal S2x16384 .f32) (p : Fin 16384) (φ θ lon lat : ℝ)
    (hlon : v (ix2 0 p) = (lon : EReal)) (hlat : v (ix2 1 p) = (lat : EReal))
    (hφ : angle lon 0x43340000#32 = (φ : EReal)) (hθ : angle lat 0x42B40000#32 = (θ : EReal)) (j : Fin 100) :
    out0_2 v splitTable (ix2 p ⟨j, by omega⟩) = (harmonic φ θ j : EReal) := by
  have hf : ∀ k : Fin 32, stack v (ix2 k p) = (feature φ θ k : EReal) := fun k =>
    (stack_apply v k p).trans (featureRow_apply v p φ θ lon lat hlon hlat hφ hθ k)
  have hl := fun k => splitTable_apply (scaledTable_left k j)
  have hr := fun k => splitTable_apply (scaledTable_right k j)
  rw [out_eq, pay38_apply,
    contraction_real _ _ (fun k => feature φ θ k) _ hf (fun k => (hl k).1) (fun k => (hl k).2.1) (fun k => (hl k).2.2),
    contraction_real _ _ (fun k => feature φ θ k) _ hf (fun k => (hr k).1) (fun k => (hr k).2.1) (fun k => (hr k).2.2),
    left_sum, right_sum, ← EReal.coe_mul, harmonic, legendre_eq _ _ _ _ (ord_bounds j).2]
  congr 1
  ring

end Cert.Proof

end
-- ==== Proof.Array.lean ====
/- The kernel's result array, index by index.

   The launch writes one block of 16384 points per grid point, and the blocks share no index; after it, the host keeps
   the first 100 of the 128 columns. So row `n` of the result is row `n mod 16384` of block `n / 16384`. -/
module

public import proofs.«01_k».proof.Proof.Block
public import Idealize.ShloMosaic.Lib.Pipeline.Value

@[expose] public section

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The block of each operand at each grid point: the points move along, the table stays. -/
theorem block_index : ∀ t : Fin cfg0.N, (win0_0.index t 0 = 0 ∧ win0_0.index t 1 = t.val)
    ∧ (win0_1.index t 0 = 0 ∧ win0_1.index t 1 = 0) ∧ (win0_2.index t 0 = t.val ∧ win0_2.index t 1 = 0) :=
  (by decide +kernel : ∀ t : Fin grid0.N, (win0_0.index t 0 = 0 ∧ win0_0.index t 1 = t.val)
    ∧ (win0_1.index t 0 = 0 ∧ win0_1.index t 1 = 0) ∧ (win0_2.index t 0 = t.val ∧ win0_2.index t 1 = 0))

/-- Distinct grid points write distinct blocks. -/
theorem disjoint_blocks : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    have h0 := congrFun h 0
    rw [← (block_index t).2.2.1, ← (block_index t').2.2.1]; exact h0))

/-- The array index of row `p` in block `t`. -/
def rowAt (t : Fin cfg0.N) (p : Fin 16384) : Fin 262144 :=
  ⟨t.val * 16384 + p.val, by have h := t.isLt; have hN : cfg0.N = 16 := N_0; omega⟩

/-- The points the body is given at grid point `t`. -/
theorem points_block (c : Dev nD) (t : Fin cfg0.N) (a : Fin 2) (p : Fin 16384) :
    iblk m c 0 t (ix2 a p) = m ((c : Thread nD τ).loc main_arg0) (ix2 (rowAt t p) a) := by
  rw [← V_points m c a (rowAt t p)]
  show V m c main_v0 ((win0_0.rect t).emb (ix2 a p)) = _
  congr 1
  funext b
  refine Fin.ext ?_
  rw [win0_0.rect_emb_val]
  match b with
  | ⟨0, _⟩ => show win0_0.index t 0 * _ + _ = _; rw [(block_index t).1.1]; simp
  | ⟨1, _⟩ => show win0_0.index t 1 * _ + _ = _; rw [(block_index t).1.2]; rfl

/-- The table the body is given, at every grid point. -/
theorem table_block (c : Dev nD) (t : Fin cfg0.N) : iblk m c 1 t = splitTable := by
  rw [← V_table m c]
  funext y
  show V m c main_v12 ((win0_1.rect t).emb y) = _
  congr 1
  funext b
  refine Fin.ext ?_
  refine Pipeline.Window.rect_emb_val_of_index_zero win0_1 t b ?_ y
  match b with
  | ⟨0, _⟩ => exact (block_index t).2.1.1
  | ⟨1, _⟩ => exact (block_index t).2.1.2

/-- The array after the launch: row `p` of block `t` is what the body stores in row `p` at grid point `t`. -/
theorem array_apply (c : Dev nD) (t : Fin cfg0.N) (p : Fin 16384) (j : Fin 128) :
    (dats m 0 c).arrAt 2 cfg0.N (ix2 (rowAt t p) j) = out0_2 (iblk m c 0 t) (iblk m c 1 t) (ix2 p j) := by
  have h := (dats m 0 c).arrAt_emb_eq_flushed 2 disjoint_blocks t (flush0_2 t) (ix2 p j)
  have e : ((cfg0.win 2).blk t).view.emb (ix2 p j) = ix2 (rowAt t p) j := by
    show (win0_2.rect t).emb (ix2 p j) = _
    funext b
    refine Fin.ext ?_
    rw [win0_2.rect_emb_val]
    match b with
    | ⟨0, _⟩ => show win0_2.index t 0 * _ + _ = _; rw [(block_index t).2.2.1]; rfl
    | ⟨1, _⟩ => show win0_2.index t 1 * _ + _ = _; rw [(block_index t).2.2.2]; simp
  rw [e] at h
  rw [h]
  show (cfg0.win 2).cut (grid0.coords t) ((dats m 0 c).after 2 t) (ix2 p j) = _
  rw [after0_2]
  rfl

/-- The result the host is left with: the first 100 columns. -/
theorem result_tail (c : Dev nD) (n : Fin 262144) (j : Fin 100) :
    Pipeline.afterTail₀ cfgs (dats m) 0 (V0 m) [hostOps1] c main_v14 (ix2 n j)
      = (dats m 0 c).arrAt 2 cfg0.N (ix2 n ⟨j, by omega⟩) := by
  have h : Pipeline.afterTail₀ cfgs (dats m) 0 (V0 m) [hostOps1] c main_v14
      = extractStridedSlice S262144x100 ![0, 0] ((dats m 0 c).arrAt 2 cfg0.N) slices_S262144x128_S262144x100_0_0 := by
    unfold Pipeline.afterTail₀ hostOps1
    simp only [List.flatten_cons, List.flatten_nil, List.append_nil]
    after_results
    exact congrArg (extractStridedSlice S262144x100 ![0, 0] · slices_S262144x128_S262144x100_0_0)
      (Pipeline.withArrays_arr spec0 (by decide) c (V0 m c) (fun w => (dats m 0 c).arrAt w cfg0.N) 2)
  rw [h]
  pointwise

/-- The kernel's result at a point whose angles are real numbers. -/
theorem result_apply (c : Dev nD) (n : Fin 262144) (j : Fin 100) (φ θ lon lat : ℝ)
    (hlon : m ((c : Thread nD τ).loc main_arg0) (ix2 n 0) = (lon : EReal))
    (hlat : m ((c : Thread nD τ).loc main_arg0) (ix2 n 1) = (lat : EReal))
    (hφ : angle lon 0x43340000#32 = (φ : EReal)) (hθ : angle lat 0x42B40000#32 = (θ : EReal)) :
    Pipeline.afterTail₀ cfgs (dats m) 0 (V0 m) [hostOps1] c main_v14 (ix2 n j) = (harmonic φ θ j : EReal) := by
  have hN : cfg0.N = 16 := N_0
  have hn := n.isLt
  obtain ⟨t, p, rfl⟩ : ∃ t p, n = rowAt t p :=
    ⟨⟨n / 16384, by omega⟩, ⟨n % 16384, by omega⟩, Fin.ext (by simp only [rowAt]; omega)⟩
  rw [result_tail, array_apply, table_block]
  exact block_apply _ p φ θ lon lat ((points_block m c t 0 p).trans hlon) ((points_block m c t 1 p).trans hlat) hφ hθ j

end Cert.Proof

end
-- ==== Proof.Recurrence.lean ====
/- The reference's recurrence in the degree, read at an index.

   The reference carries, for every point, 19 columns: one per order from -9 to 9. A step of the recurrence makes the
   columns of one degree from those of the two degrees below it. -/
module

public import proofs.«01_k».proof.Proof.Gen.ReferenceIdeal.Run
public import proofs.«01_k».proof.Proof.Legendre
public import Idealize.ShloMosaic.Lib.IdealHost
public import Idealize.ShloMosaic.Lib.Pointwise
public import Mathlib.Tactic.IntervalCases
public import Mathlib.Tactic.NormNum
public import Mathlib.Tactic.Linarith

@[expose] public section

noncomputable section

namespace Cert.Proof

open Idealize.ShloMosaic Cert.ReferenceIdeal Cert.ReferenceIdeal.Gen Cert.ReferenceIdeal.Value

/-! ## The constants of a degree -/

/-- The word of the degree `l`. -/
def degWord (l : ℕ) : BitVec 32 := [0x00000000#32, 0x3F800000#32, 0x40000000#32, 0x40400000#32, 0x40800000#32,
  0x40A00000#32, 0x40C00000#32, 0x40E00000#32, 0x41000000#32, 0x41100000#32].getD l 0

/-- The word of `2 l - 1`, for `l` from 1. -/
def oddWord (l : ℕ) : BitVec 32 := [0#32, 0x3F800000#32, 0x40400000#32, 0x40A00000#32, 0x40E00000#32, 0x41100000#32,
  0x41300000#32, 0x41500000#32, 0x41700000#32, 0x41880000#32].getD l 0

/-- The word of `-(2 l - 1)`, for `l` from 1. -/
def negWord (l : ℕ) : BitVec 32 := [0#32, 0xBF800000#32, 0xC0400000#32, 0xC0A00000#32, 0xC0E00000#32, 0xC1100000#32,
  0xC1300000#32, 0xC1500000#32, 0xC1700000#32, 0xC1880000#32].getD l 0

/-- The word for the degree `l`. -/
theorem degWord_eq (l : ℕ) (h : l ≤ 9) : Ideal.ofBits .f32 (degWord l) = ((l : ℝ) : EReal) := by
  interval_cases l <;> (simp [degWord, Ideal.ofBits, Ideal.ieee, -EReal.coe_mul]; try norm_num)

/-- The word for `2 l - 1`. -/
theorem oddWord_eq (l : ℕ) (h0 : 1 ≤ l) (h : l ≤ 9) : Ideal.ofBits .f32 (oddWord l) = ((2 * (l : ℝ) - 1 : ℝ) : EReal) := by
  interval_cases l <;> (simp [oddWord, Ideal.ofBits, Ideal.ieee, -EReal.coe_mul, -EReal.coe_sub, -EReal.coe_neg]; try norm_num [-EReal.coe_sub, -EReal.coe_neg, -EReal.coe_mul])

/-- The word for `-(2 l - 1)`. -/
theorem negWord_eq (l : ℕ) (h0 : 1 ≤ l) (h : l ≤ 9) : Ideal.ofBits .f32 (negWord l) = ((-(2 * (l : ℝ) - 1) : ℝ) : EReal) := by
  interval_cases l <;> (simp [negWord, Ideal.ofBits, Ideal.ieee, -EReal.coe_mul, -EReal.coe_sub, -EReal.coe_neg]; try norm_num [-EReal.coe_sub, -EReal.coe_neg, -EReal.coe_mul])

/-! ## One step -/

/-- A scalar word in every one of the 19 columns. -/
abbrev rowConst (w : BitVec 32) : FVec Ideal S1x19 .f32 := broadcastInDim S1x19 ![] bcast_S_S1x19 (constant S_ .f32 w)

/-- A row of 19 columns for every point. -/
abbrev overPoints {α : Type} (r : S1x19.Idx → α) : S262144x19.Idx → α :=
  broadcastInDim S262144x19 ![0, 1] bcast_S1x19_S262144x19_0_1 r

/-- A number per point in every one of the 19 columns. -/
abbrev overOrders (x : FVec Ideal S262144x1 .f32) : FVec Ideal S262144x19 .f32 :=
  broadcastInDim S262144x19 ![0, 1] bcast_S262144x1_S262144x19_0_1 x

/-- The 19 columns of degree `l`, from `p` of degree `l - 1` and `q` of degree `l - 2`: `om` and `of` are the
    orders' absolute values as integers and as floats, `x` is `cos θ`, `d` the diagonal's value, `z` zero. -/
def degreeStep (l : ℕ) (om : IVec S1x19 32) (of : FVec Ideal S1x19 .f32) (x d : FVec Ideal S262144x1 .f32)
    (p q z : FVec Ideal S262144x19 .f32) : FVec Ideal S262144x19 .f32 :=
  select (overPoints (cmpi .slt om (broadcastInDim S1x19 ![] bcast_S_S1x19 (constantI S_ 32 (BitVec.ofNat 32 l)))))
    (Host.divf
      (subf
        (mulf (overOrders (mulf (broadcastInDim S262144x1 ![] bcast_S_S262144x1 (constant S_ .f32 (oddWord l))) x)) p)
        (mulf (overPoints (subf (addf (rowConst (degWord l)) of) (rowConst 0x3F800000#32))) q))
      (overPoints (subf (rowConst (degWord l)) of)))
    (select (overPoints (cmpi .eq om (broadcastInDim S1x19 ![] bcast_S_S1x19 (constantI S_ 32 (BitVec.ofNat 32 l)))))
      (overOrders d) z)

/-- Comparing small words is comparing the numbers. -/
theorem slt_small : ∀ a b : Fin 10, IntOp.cmpi .slt (BitVec.ofNat 32 a) (BitVec.ofNat 32 b) = if a.val < b.val then 1#1 else 0#1 := by
  decide
/-- Equality of small words is equality of the numbers. -/
theorem eq_small : ∀ a b : Fin 10, IntOp.cmpi .eq (BitVec.ofNat 32 a) (BitVec.ofNat 32 b) = if a.val = b.val then 1#1 else 0#1 := by
  decide

/-- A step at an index, where everything it reads is a real number. -/
theorem degreeStep_apply (l a : ℕ) (h1 : 1 ≤ l) (h9 : l ≤ 9) (ha : a ≤ 9) (om : IVec S1x19 32) (of : FVec Ideal S1x19 .f32)
    (x d : FVec Ideal S262144x1 .f32) (p q z : FVec Ideal S262144x19 .f32) (n : Fin 262144) (k : Fin 19) (xr s pr qr : ℝ)
    (hom : om (ix2 0 k) = BitVec.ofNat 32 a) (hof : of (ix2 0 k) = ((a : ℝ) : EReal)) (hx : x (ix2 n 0) = (xr : EReal))
    (hd : d (ix2 n 0) = (diagR s l : EReal)) (hp : p (ix2 n k) = (pr : EReal)) (hq : q (ix2 n k) = (qr : EReal))
    (hz : z (ix2 n k) = 0) :
    degreeStep l om of x d p q z (ix2 n k) = (step xr s l a pr qr : EReal) := by
  unfold degreeStep
  pointwise
  have hs := slt_small ⟨a, by omega⟩ ⟨l, by omega⟩
  have he := eq_small ⟨a, by omega⟩ ⟨l, by omega⟩
  simp only at hs he
  rw [hom, hs, he, hof, hx, hd, hp, hq, hz, oddWord_eq l h1 h9, degWord_eq l h9, step]
  by_cases hlt : a < l
  · have hne : ((l : ℝ) - a) ≠ 0 := by
      have : (a : ℝ) < l := by exact_mod_cast hlt
      linarith
    rw [if_pos hlt, if_pos hlt, ValueIdx.select_one, ← EReal.coe_one, ← EReal.coe_sub, ← EReal.coe_add, ← EReal.coe_sub,
      ← EReal.coe_mul, ← EReal.coe_mul, ← EReal.coe_mul, ← EReal.coe_sub, Ideal.div_coe hne, ← EReal.coe_mul]
    congr 1
    ring
  · rw [if_neg hlt, if_neg hlt, ValueIdx.select_zero]
    by_cases heq : a = l
    · rw [if_pos heq, if_pos heq, ValueIdx.select_one]
    · rw [if_neg heq, if_neg heq, ValueIdx.select_zero, EReal.coe_zero]

end Cert.Proof

end
-- ==== Proof.Reference.lean ====
/- The reference's result, read at an index: real spherical harmonics.

   The recurrence of `Recurrence.lean` is followed through the ten degrees, and the 100 columns of the result are found
   among the 19 columns of the degree each belongs to. -/
module

public import proofs.«01_k».proof.Proof.Recurrence
public import proofs.«01_k».proof.Proof.Block

@[expose] public section

noncomputable section

namespace Cert.Proof

open Idealize.ShloMosaic Cert.ReferenceIdeal Cert.ReferenceIdeal.Gen Cert.ReferenceIdeal.Value

variable (m : (ℓ : Loc nD τ sig) → Buf (Elt Ideal) ℓ) (ρ : Dev nD → PrngReg)

/-- The contents of the reference's buffers. -/
abbrev RefContents := Valuation τ sig (Elt Ideal)

variable (V0 : RefContents)

/-! ## The recurrence through the degrees -/

/-- The diagonal's value in every degree, per point. -/
def diagVec : ℕ → FVec Ideal S262144x1 .f32
  | 0 => res_main_v18 V0
  | l + 1 => mulf (mulf (broadcastInDim S262144x1 ![] bcast_S_S262144x1 (constant S_ .f32 (negWord (l + 1)))) (res_main_v11 V0))
      (diagVec l)

/-- The 19 columns of a degree, with those of the degree below it. -/
def legendreVec : ℕ → FVec Ideal S262144x19 .f32 × FVec Ideal S262144x19 .f32
  | 0 => (res_main_v22 V0, res_main_v19 V0)
  | l + 1 => (degreeStep (l + 1) (res_main_v16 V0) (res_main_v17 V0) (res_main_v10 V0) (diagVec V0 (l + 1))
      (legendreVec l).1 (legendreVec l).2 (res_main_v19 V0), (legendreVec l).1)

/-- The absolute value of the order of column `k` of the 19. -/
def ordAt (k : ℕ) : ℕ := if k < 9 then 9 - k else k - 9

/-- The program's integer order of column `k`, read as a number. -/
theorem order_word : ∀ k : Fin 19, IntOp.absi (BitVec.ofNat 32 k - 9#32) = BitVec.ofNat 32 (ordAt k) ∧ ordAt k ≤ 9 := by
  decide

/-- The row of integer orders. -/
theorem orders_apply (k : Fin 19) : res_main_v16 V0 (ix2 0 k) = BitVec.ofNat 32 (ordAt k) := by
  rw [← (order_word k).1]
  pointwise [res_main_v16, res_main_v15]
  rfl

/-- An order as a word, read signed. -/
theorem ordAt_toInt : ∀ k : Fin 19, (BitVec.ofNat 32 (ordAt k)).toInt = (ordAt k : ℤ) := by decide

/-- The row of orders as floats. -/
theorem orders_float_apply (k : Fin 19) : res_main_v17 V0 (ix2 0 k) = ((ordAt k : ℝ) : EReal) := by
  have h : res_main_v17 V0 (ix2 0 k) = (((res_main_v16 V0 (ix2 0 k)).toInt : ℝ) : EReal) := rfl
  rw [h, orders_apply, ordAt_toInt, Int.cast_natCast]

section Point

variable (n : Fin 262144) (θ : ℝ) (hθ : res_main_v9 V0 (ix2 n 0) = (θ : EReal))

include hθ

/-- The cosine of the polar angle at a point. -/
theorem cos_apply : res_main_v10 V0 (ix2 n 0) = (Real.cos θ : EReal) := by
  have h : res_main_v10 V0 (ix2 n 0) = Ideal.cos (res_main_v9 V0 (ix2 n 0)) := rfl
  rw [h, hθ]
  rfl

/-- The sine of the polar angle at a point. -/
theorem sin_apply : res_main_v11 V0 (ix2 n 0) = (Real.sin θ : EReal) := by
  have h : res_main_v11 V0 (ix2 n 0) = Ideal.sin (res_main_v9 V0 (ix2 n 0)) := rfl
  rw [h, hθ]
  rfl

/-- The diagonal at a point is the recurrence's real number. -/
theorem diagVec_apply : ∀ l ≤ 9, diagVec V0 l (ix2 n 0) = (diagR (Real.sin θ) l : EReal)
  | 0, _ => by
    rw [diagVec]
    pointwise [res_main_v18]
    simp [diagR]
  | l + 1, h => by
    have ih := diagVec_apply l (by omega)
    rw [diagVec]
    pointwise
    rw [ih, sin_apply V0 n θ hθ, negWord_eq (l + 1) (by omega) h, ← EReal.coe_mul, ← EReal.coe_mul, diagR, Nat.cast_add, Nat.cast_one]

/-- Column `k` of degree `l` at a point is the recurrence's real number, and so is the degree below it. -/
theorem legendreVec_apply (k : Fin 19) : ∀ l ≤ 9,
    (legendreVec V0 l).1 (ix2 n k) = ((legendrePair (Real.cos θ) (Real.sin θ) (ordAt k) l).1 : EReal)
    ∧ (legendreVec V0 l).2 (ix2 n k) = ((legendrePair (Real.cos θ) (Real.sin θ) (ordAt k) l).2 : EReal)
  | 0, _ => by
    have he := eq_small ⟨ordAt k, by have := (order_word k).2; omega⟩ ⟨0, by omega⟩
    rw [legendreVec, legendrePair]
    constructor
    · pointwise [res_main_v22, res_main_v18, res_main_v19]
      rw [orders_apply]
      rw [show (0#32) = BitVec.ofNat 32 0 from rfl, he]
      by_cases h0 : ordAt k = 0
      · simp [h0, ValueIdx.select_one]
      · simp [h0, ValueIdx.select_zero]
    · pointwise [res_main_v19]
      simp
  | l + 1, h => by
    obtain ⟨ih1, ih2⟩ := legendreVec_apply k l (by omega)
    rw [legendreVec, legendrePair]
    refine ⟨?_, ih1⟩
    refine degreeStep_apply (l + 1) (ordAt k) (by omega) h (order_word k).2 _ _ _ _ _ _ _ n k _ _ _ _ (orders_apply V0 k)
      (orders_float_apply V0 k) (cos_apply V0 n θ hθ) (diagVec_apply V0 n θ hθ (l + 1) h) ih1 ih2 ?_
    pointwise [res_main_v19]

end Point

/-- The program's test for a negative order. -/
theorem sign_word : ∀ k : Fin 19, IntOp.cmpi .sge (IntOp.subi (BitVec.ofNat 32 k) 9#32) 0#32 = if k.val < 9 then 0#1 else 1#1 := by
  decide

/-- The trigonometric factor: the sine in the columns of negative order, the cosine in the others. -/
theorem trig_apply (n : Fin 262144) (k : Fin 19) (φ : ℝ) (hφ : res_main_v5 V0 (ix2 n 0) = (φ : EReal)) :
    res_main_v249 V0 (ix2 n k) = ((if k.val < 9 then Real.sin (ordAt k * φ) else Real.cos (ordAt k * φ) : ℝ) : EReal) := by
  pointwise [res_main_v249, res_main_v15]
  rw [orders_float_apply, hφ, sign_word, ← EReal.coe_mul]
  by_cases h : k.val < 9
  · rw [if_pos h, if_pos h, ValueIdx.select_zero]
    rfl
  · rw [if_neg h, if_neg h, ValueIdx.select_one]
    rfl

/-! ## The columns of the result -/

/-- The 100 columns: of degree `l`, the middle `2 l + 1` of the 19, each the product of `t` and `p l`. -/
def columns (t : FVec Ideal S262144x19 .f32) (p : ℕ → FVec Ideal S262144x19 .f32) : FVec Ideal S262144x100 .f32 :=
  concatenate S262144x100 1
    [⟨S262144x1, mulf (extractStridedSlice S262144x1 ![0, 9] t slices_S262144x19_S262144x1_0_9) (extractStridedSlice S262144x1 ![0, 9] (p 0) slices_S262144x19_S262144x1_0_9)⟩,
     ⟨S262144x3, mulf (extractStridedSlice S262144x3 ![0, 8] t slices_S262144x19_S262144x3_0_8) (extractStridedSlice S262144x3 ![0, 8] (p 1) slices_S262144x19_S262144x3_0_8)⟩,
     ⟨S262144x5, mulf (extractStridedSlice S262144x5 ![0, 7] t slices_S262144x19_S262144x5_0_7) (extractStridedSlice S262144x5 ![0, 7] (p 2) slices_S262144x19_S262144x5_0_7)⟩,
     ⟨S262144x7, mulf (extractStridedSlice S262144x7 ![0, 6] t slices_S262144x19_S262144x7_0_6) (extractStridedSlice S262144x7 ![0, 6] (p 3) slices_S262144x19_S262144x7_0_6)⟩,
     ⟨S262144x9, mulf (extractStridedSlice S262144x9 ![0, 5] t slices_S262144x19_S262144x9_0_5) (extractStridedSlice S262144x9 ![0, 5] (p 4) slices_S262144x19_S262144x9_0_5)⟩,
     ⟨S262144x11, mulf (extractStridedSlice S262144x11 ![0, 4] t slices_S262144x19_S262144x11_0_4) (extractStridedSlice S262144x11 ![0, 4] (p 5) slices_S262144x19_S262144x11_0_4)⟩,
     ⟨S262144x13, mulf (extractStridedSlice S262144x13 ![0, 3] t slices_S262144x19_S262144x13_0_3) (extractStridedSlice S262144x13 ![0, 3] (p 6) slices_S262144x19_S262144x13_0_3)⟩,
     ⟨S262144x15, mulf (extractStridedSlice S262144x15 ![0, 2] t slices_S262144x19_S262144x15_0_2) (extractStridedSlice S262144x15 ![0, 2] (p 7) slices_S262144x19_S262144x15_0_2)⟩,
     ⟨S262144x17, mulf (extractStridedSlice S262144x17 ![0, 1] t slices_S262144x19_S262144x17_0_1) (extractStridedSlice S262144x17 ![0, 1] (p 8) slices_S262144x19_S262144x17_0_1)⟩,
     ⟨S262144x19, mulf t (p 9)⟩]
    concatenates_S262144x1_S262144x3_S262144x5_S262144x7_S262144x9_S262144x11_S262144x13_S262144x15_S262144x17_S262144x19_S262144x100_d1

/-- Where column `j` of the result lies among the 19 of its degree. -/
def colOf (j : ℕ) : ℕ := 9 - degOf j + placeOf j

/-- What a column is: its degree, its place, its sign and its order. -/
theorem col_facts : ∀ j : Fin 100, degOf j ≤ 9 ∧ colOf j < 19 ∧ ordAt (colOf j) = ordOf j
    ∧ (isSine j = true ↔ colOf j < 9) ∧ j.val = degOf j * degOf j + placeOf j ∧ placeOf j ≤ 2 * degOf j := by
  decide +kernel

/-- Columns `d²` to `(d + 1)² - 1` are those of degree `d`. -/
theorem deg_of_range : ∀ j : Fin 100, ∀ d : Fin 10, d.val * d.val ≤ j.val → j.val < (d.val + 1) * (d.val + 1) → d.val = degOf j := by
  decide +kernel

set_option maxHeartbeats 1000000 in
/-- Column `j` is the product of column `colOf j` of the two factors in its degree. -/
theorem columns_apply (t : FVec Ideal S262144x19 .f32) (p : ℕ → FVec Ideal S262144x19 .f32) (n : Fin 262144) (j : Fin 100) :
    columns t p (ix2 n j) = t (ix2 n ⟨colOf j, (col_facts j).2.1⟩) * p (degOf j) (ix2 n ⟨colOf j, (col_facts j).2.1⟩) := by
  have key : ∀ (d v : ℕ) (hv : v < 19), d ≤ 9 → d * d ≤ j.val → j.val < (d + 1) * (d + 1) → v + d * d + d = 9 + j.val →
      t (ix2 n ⟨v, hv⟩) * p d (ix2 n ⟨v, hv⟩)
      = t (ix2 n ⟨colOf j, (col_facts j).2.1⟩) * p (degOf j) (ix2 n ⟨colOf j, (col_facts j).2.1⟩) := by
    intro d v hv hd h1 h2 h3
    obtain rfl : d = degOf j := deg_of_range j ⟨d, by omega⟩ h1 h2
    obtain rfl : v = colOf j := by
      have hj := (col_facts j).2.2.2.2.1
      unfold colOf
      omega
    rfl
  have hj := j.isLt
  unfold columns
  pointwise
  split_ifs <;> refine key _ _ _ (by decide) ?_ ?_ ?_ <;> omega

/-! ## The generated reading of the run -/

/-- The generated reading names the degrees one by one; each is the recurrence's. -/
theorem next_degree (l : ℕ) (v d p q : _) (hd : diagVec V0 (l + 1) = d) (h : legendreVec V0 l = (p, q))
    (hv : v = degreeStep (l + 1) (res_main_v16 V0) (res_main_v17 V0) (res_main_v10 V0) d p q (res_main_v19 V0)) :
    legendreVec V0 (l + 1) = (v, p) := by
  rw [legendreVec, h, hd, hv]

/-- Each named diagonal is the recurrence's. -/
theorem next_diag (l : ℕ) (v d : _) (h : diagVec V0 l = d)
    (hv : v = mulf (mulf (broadcastInDim S262144x1 ![] bcast_S_S262144x1 (constant S_ .f32 (negWord (l + 1)))) (res_main_v11 V0)) d) :
    diagVec V0 (l + 1) = v := by
  rw [diagVec, h, hv]

/-- The degrees as the generated reading of the run names them; the last has no name there. -/
def named : ℕ → FVec Ideal S262144x19 .f32
  | 0 => res_main_v22 V0
  | 1 => res_main_v46 V0
  | 2 => res_main_v70 V0
  | 3 => res_main_v94 V0
  | 4 => res_main_v118 V0
  | 5 => res_main_v142 V0
  | 6 => res_main_v166 V0
  | 7 => res_main_v190 V0
  | 8 => res_main_v214 V0
  | _ => degreeStep 9 (res_main_v16 V0) (res_main_v17 V0) (res_main_v10 V0)
      (mulf (mulf (broadcastInDim S262144x1 ![] bcast_S_S262144x1 (constant S_ .f32 (negWord 9))) (res_main_v11 V0)) (res_main_v193 V0))
      (res_main_v214 V0) (res_main_v190 V0) (res_main_v19 V0)

/-- Every named degree is the degree of the recurrence. -/
theorem named_eq (l : ℕ) (hl : l ≤ 9) : named V0 l = (legendreVec V0 l).1 := by
  have d0 : diagVec V0 0 = res_main_v18 V0 := rfl
  have d1 : diagVec V0 1 = res_main_v25 V0 := next_diag V0 0 _ _ d0 rfl
  have d2 : diagVec V0 2 = res_main_v49 V0 := next_diag V0 1 _ _ d1 rfl
  have d3 : diagVec V0 3 = res_main_v73 V0 := next_diag V0 2 _ _ d2 rfl
  have d4 : diagVec V0 4 = res_main_v97 V0 := next_diag V0 3 _ _ d3 rfl
  have d5 : diagVec V0 5 = res_main_v121 V0 := next_diag V0 4 _ _ d4 rfl
  have d6 : diagVec V0 6 = res_main_v145 V0 := next_diag V0 5 _ _ d5 rfl
  have d7 : diagVec V0 7 = res_main_v169 V0 := next_diag V0 6 _ _ d6 rfl
  have d8 : diagVec V0 8 = res_main_v193 V0 := next_diag V0 7 _ _ d7 rfl
  have p0 : legendreVec V0 0 = (res_main_v22 V0, res_main_v19 V0) := rfl
  have p1 : legendreVec V0 1 = (res_main_v46 V0, res_main_v22 V0) := next_degree V0 0 _ _ _ _ d1 p0 rfl
  have p2 : legendreVec V0 2 = (res_main_v70 V0, res_main_v46 V0) := next_degree V0 1 _ _ _ _ d2 p1 rfl
  have p3 : legendreVec V0 3 = (res_main_v94 V0, res_main_v70 V0) := next_degree V0 2 _ _ _ _ d3 p2 rfl
  have p4 : legendreVec V0 4 = (res_main_v118 V0, res_main_v94 V0) := next_degree V0 3 _ _ _ _ d4 p3 rfl
  have p5 : legendreVec V0 5 = (res_main_v142 V0, res_main_v118 V0) := next_degree V0 4 _ _ _ _ d5 p4 rfl
  have p6 : legendreVec V0 6 = (res_main_v166 V0, res_main_v142 V0) := next_degree V0 5 _ _ _ _ d6 p5 rfl
  have p7 : legendreVec V0 7 = (res_main_v190 V0, res_main_v166 V0) := next_degree V0 6 _ _ _ _ d7 p6 rfl
  have p8 : legendreVec V0 8 = (res_main_v214 V0, res_main_v190 V0) := next_degree V0 7 _ _ _ _ d8 p7 rfl
  have p9 : legendreVec V0 9 = (named V0 9, res_main_v214 V0) := next_degree V0 8 _ _ _ _ (next_diag V0 8 _ _ d8 rfl) p8 rfl
  interval_cases l
  exacts [(congrArg Prod.fst p0).symm, (congrArg Prod.fst p1).symm, (congrArg Prod.fst p2).symm, (congrArg Prod.fst p3).symm,
    (congrArg Prod.fst p4).symm, (congrArg Prod.fst p5).symm, (congrArg Prod.fst p6).symm, (congrArg Prod.fst p7).symm,
    (congrArg Prod.fst p8).symm, (congrArg Prod.fst p9).symm]

/-- The reference's result. -/
def refResult : FVec Ideal S262144x100 .f32 :=
  mulf (broadcastInDim S262144x100 ![0, 1] bcast_S1x100_S262144x100_0_1 (broadcastInDim S1x100 ![1] bcast_S100_S1x100_1
    (fun i => FloatOps.ofBits .f32 (lit0 (S100.rowMajor i)))))
    (columns (res_main_v249 V0) (named V0))

/-- The reference's result is the spherical harmonics at the point's angles. -/
theorem refResult_apply (n : Fin 262144) (j : Fin 100) (φ θ : ℝ) (hφ : res_main_v5 V0 (ix2 n 0) = (φ : EReal))
    (hθ : res_main_v9 V0 (ix2 n 0) = (θ : EReal)) : refResult V0 (ix2 n j) = (harmonic φ θ j : EReal) := by
  obtain ⟨hD, hc, ho, hs, -, -⟩ := col_facts j
  have h : refResult V0 (ix2 n j) = Ideal.ofBits .f32 (lit0 j)
      * columns (res_main_v249 V0) (named V0) (ix2 n j) := by
    unfold refResult
    generalize columns _ _ = q
    pointwise
    exact congrArg (fun i => Ideal.ofBits .f32 (lit0 i) * q (ix2 n j)) (Fin.ext (Shape.rowMajor_val_one (ix1 j)))
  rw [h, columns_apply, trig_apply V0 n _ φ hφ, named_eq V0 _ hD, (legendreVec_apply V0 n θ hθ _ _ hD).1, normR_eq, ← EReal.coe_mul,
    ← EReal.coe_mul, harmonic, trig, legendre]
  simp only [ho, hs, mul_assoc]

/-- The reference's run, its result in these words. -/
theorem run_columns : θ_run defs (onTc (τ := τ) (main (F := Ideal))) ⟨m, fun _ => 0, ρ⟩ fun r => ∀ c : Dev nD,
      r.2.mem ((c.tc : Thread nD τ).loc main_v281) = refResult (StableHlo.launchContents m c)
      ∧ r.2.mem ((c.tc : Thread nD τ).loc main_arg0) = m ((c.tc : Thread nD τ).loc main_arg0) := by
  exact (θ_run defs _ _).mono (fun r h c => ⟨(h c).1, (h c).2⟩) (run m ρ)

end Cert.Proof

end
-- ==== Proof.Finite.lean ====
/- The precondition, read back: every longitude and latitude is a real number, and so are the two angles. -/
module

public import proofs.«01_k».proof.Pre_finite
public import proofs.«01_k».proof.Proof.Gen.Pre_finite
public import proofs.«01_k».proof.Proof.Features
public import proofs.«01_k».proof.Proof.Words
public import Idealize.ShloMosaic.Lib.ReduceAll

@[expose] public section

noncomputable section

namespace Cert.Proof

open Idealize.ShloMosaic

/-- An extended real whose absolute value is below infinity is a real number. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- Under the precondition every element of the argument is a real number. -/
theorem real_of_finite (x : FVec Ideal Pre_finite.S262144x2 .f32)
    (h : Pre_finite.fn (F := Ideal) x = fun _ => 1#1) (i : Pre_finite.S262144x2.Idx) : ∃ r : ℝ, x i = (r : EReal) := by
  haveI : Subsingleton Pre_finite.S_.Idx := ⟨fun a b => funext fun k => k.elim0⟩
  exact real_of_abs_lt (x i) (Host.reduce_andi_all _ _ _ _ (fun k => k.elim0) (congrFun h _) i)

/-- An angle of a real longitude or latitude is a real number, where the shift is a finite word. -/
theorem angle_real (r : ℝ) (d : BitVec 32) (hd : (d.extractLsb' 23 8).toNat ≠ 255) : ∃ φ : ℝ, angle r d = (φ : EReal) := by
  obtain ⟨a, ha⟩ := ofBits_real d hd
  obtain ⟨b, hb⟩ := ofBits_real 0x3C8EFA35#32 (by decide)
  exact ⟨(r + a) * b, by rw [angle, ha, hb, ← EReal.coe_add, ← EReal.coe_mul]⟩

end Cert.Proof

end
-- ==== Proof.Algebraic.lean ====
/- The value claim: kernel and reference end with the same array.

   Both are read at row `n` and column `j`, and both are the spherical harmonic of column `j` at the point's two angles. -/
module

public import proofs.«01_k».proof.Defs
public import proofs.«01_k».proof.Proof.Array
public import proofs.«01_k».proof.Proof.Reference
public import proofs.«01_k».proof.Proof.Finite

@[expose] public section

noncomputable section

namespace Cert.Proof

open Idealize.ShloMosaic Idealize.ShloMosaic.TcCoe Idealize.SL.Sem

/-- The kernel's result array: what the lines after the launch leave in it. -/
abbrev kernelResult (m : (ℓ : Loc KernelIdeal.nD KernelIdeal.τ KernelIdeal.sig) → Buf (Elt Ideal) ℓ) (c : Dev KernelIdeal.nD) :=
  Pipeline.afterTail₀ KernelIdeal.cfgs (KernelIdeal.Gen.dats m) 0 (KernelIdeal.Gen.V0 m) [KernelIdeal.Gen.hostOps1] c KernelIdeal.main_v14

/-- The kernel's run: the result is what the lines after the launch leave, the argument is unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      ∀ c : Dev KernelIdeal.nD,
        r.2.mem ((c.tc : Thread KernelIdeal.nD KernelIdeal.τ).loc KernelIdeal.main_v14)
          = kernelResult m c
        ∧ r.2.mem ((c.tc : Thread KernelIdeal.nD KernelIdeal.τ).loc KernelIdeal.main_arg0)
          = m ((c.tc : Thread KernelIdeal.nD KernelIdeal.τ).loc KernelIdeal.main_arg0)) :=
  (θ_run KernelIdeal.defs _ _).mono (fun _ h c =>
      ⟨(h c).2 KernelIdeal.main_v14 (Pipeline.mem_restRefs_of KernelIdeal.main_v14 (by decide) (by decide)),
       ((h c).2 KernelIdeal.main_arg0 (Pipeline.mem_restRefs_of KernelIdeal.main_arg0 (by decide) (by decide))).trans
        (KernelIdeal.Gen.W_main_arg0 m (KernelIdeal.Gen.dats m) c)⟩)
    (KernelIdeal.Gen.run_main m g)

/-- The reference's two angles at a point are those the kernel computes. -/
theorem reference_angles (V0 : RefContents) (n : Fin 262144) (lon lat : ℝ)
    (hlon : V0 (Proc.devRef .tc ReferenceIdeal.main_arg0) (ix2 n 0) = (lon : EReal))
    (hlat : V0 (Proc.devRef .tc ReferenceIdeal.main_arg0) (ix2 n 1) = (lat : EReal)) :
    ReferenceIdeal.Value.res_main_v5 V0 (ix2 n 0) = angle lon 0x43340000#32
    ∧ ReferenceIdeal.Value.res_main_v9 V0 (ix2 n 0) = angle lat 0x42B40000#32 := by
  constructor
  · pointwise [ReferenceIdeal.Value.res_main_v5]
    exact congrArg (fun x : EReal => (x + _) * _) hlon
  · pointwise [ReferenceIdeal.Value.res_main_v9]
    exact congrArg (fun x : EReal => (x + _) * _) hlat

/-- The two results agree at every index. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hfin : Pre_finite.fn (F := Ideal) (m ((c.tc : Thread KernelIdeal.nD KernelIdeal.τ).loc KernelIdeal.main_arg0)) = fun _ => 1#1)
    (hagree : m' ((c.tc : Thread ReferenceIdeal.nD ReferenceIdeal.τ).loc ReferenceIdeal.main_arg0)
      = m ((c.tc : Thread KernelIdeal.nD KernelIdeal.τ).loc KernelIdeal.main_arg0)) :
    refResult (StableHlo.launchContents m' c)
      = kernelResult m c := by
  funext i
  obtain ⟨n, j, rfl⟩ : ∃ (n : Fin 262144) (j : Fin 100), i = ix2 n j := ⟨i 0, i 1, by funext a; fin_cases a <;> rfl⟩
  obtain ⟨lon, hlon⟩ := real_of_finite _ hfin (ix2 n 0)
  obtain ⟨lat, hlat⟩ := real_of_finite _ hfin (ix2 n 1)
  obtain ⟨φ, hφ⟩ := angle_real lon 0x43340000#32 (by decide)
  obtain ⟨θ, hθ⟩ := angle_real lat 0x42B40000#32 (by decide)
  obtain ⟨hr1, hr2⟩ := reference_angles (StableHlo.launchContents m' c) n lon lat
    ((congrFun hagree _).trans hlon) ((congrFun hagree _).trans hlat)
  exact (refResult_apply _ n j φ θ (hr1.trans hφ) (hr2.trans hθ)).trans
    (result_apply m c n j φ θ lon lat hlon hlat hφ hθ).symm

/-- The value claim. -/
theorem algebraic : Cert.algebraic_KernelIdeal_ReferenceIdeal_pre_finite := by
  intro m g m' g' hpre hagree
  refine ⟨kernelResult m, kernel_run m g, ?_⟩
  exact (θ_run ReferenceIdeal.defs _ _).mono (fun r h c => ⟨(h c).1.trans (results_eq m m' c (hpre c) (hagree c)), (h c).2⟩)
    (run_columns m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference ends, leaves its argument unchanged, and declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
